-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_routing_finite [hPre_routing_finite : Cert.Pre_routing_finite.Facts] (m : (ℓ : Loc Cert.MoeIdeal.nD Cert.MoeIdeal.τ Cert.MoeIdeal.sig) → Buf (Elt Ideal) ℓ) : Prop :=
  ∀ c : Dev Cert.MoeIdeal.nD,
    (Cert.Pre_routing_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).1 = (fun _ => 1#1)
    ∧ (Cert.Pre_routing_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).2.1 = (fun _ => 1#1)
    ∧ (Cert.Pre_routing_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routing_finite [hPre_routing_finite : Cert.Pre_routing_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routing_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).1 = (fun _ => 1#1)
    ∧ (Cert.Pre_routing_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).2.1 = (fun _ => 1#1)
    ∧ (Cert.Pre_routing_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_scores_finite [hPre_scores_finite : Cert.Pre_scores_finite.Facts] (m : (ℓ : Loc Cert.WinIdeal.nD Cert.WinIdeal.τ Cert.WinIdeal.sig) → Buf (Elt Ideal) ℓ) : Prop :=
  ∀ c : Dev Cert.WinIdeal.nD,
    (Cert.Pre_scores_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).1 = (fun _ => 1#1)
    ∧ (Cert.Pre_scores_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).2.1 = (fun _ => 1#1)
    ∧ (Cert.Pre_scores_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).2.2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_scores_finite [hPre_scores_finite : Cert.Pre_scores_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_scores_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).1 = (fun _ => 1#1)
    ∧ (Cert.Pre_scores_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).2.1 = (fun _ => 1#1)
    ∧ (Cert.Pre_scores_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_routing_finite [hMoeIdeal : Cert.MoeIdeal.Facts] [hPre_routing_finite : Cert.Pre_routing_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routing_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_routing_finite [hMoeRefIdeal : Cert.MoeRefIdeal.Facts] [hPre_routing_finite : Cert.Pre_routing_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routing_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinIdeal_pre_scores_finite [hWinIdeal : Cert.WinIdeal.Facts] [hPre_scores_finite : Cert.Pre_scores_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_scores_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_WinRefIdeal_pre_scores_finite [hWinRefIdeal : Cert.WinRefIdeal.Facts] [hPre_scores_finite : Cert.Pre_scores_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_scores_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Moe_MoeIdeal : Prop :=
  True

def algebraic_MoeIdeal_MoeRefIdeal_pre_routing_finite [hMoeIdeal : Cert.MoeIdeal.Facts] [hMoeRefIdeal : Cert.MoeRefIdeal.Facts] [hPre_routing_finite : Cert.Pre_routing_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routing_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v1) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v78) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v8)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v8) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v45) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v10_0)) (v1 : (c : Dev Cert.InIdeal.nD) → Buf (Elt Ideal) ((c.tc : Thread Cert.InIdeal.nD Cert.InIdeal.τ).loc Cert.InIdeal.main_v10_1)) (v2 : (c : Dev Cert.InIdeal.nD) → Buf (Elt Ideal) ((c.tc : Thread Cert.InIdeal.nD Cert.InIdeal.τ).loc Cert.InIdeal.main_v10_2)) (v3 : (c : Dev Cert.InIdeal.nD) → Buf (Elt Ideal) ((c.tc : Thread Cert.InIdeal.nD Cert.InIdeal.τ).loc Cert.InIdeal.main_v10_3)) (v4 : (c : Dev Cert.InIdeal.nD) → Buf (Elt Ideal) ((c.tc : Thread Cert.InIdeal.nD Cert.InIdeal.τ).loc Cert.InIdeal.main_v10_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v10_0) = v0 c
          ∧ r.2.mem ((c.tc : Thread Cert.InIdeal.nD Cert.InIdeal.τ).loc Cert.InIdeal.main_v10_1) = v1 c
          ∧ r.2.mem ((c.tc : Thread Cert.InIdeal.nD Cert.InIdeal.τ).loc Cert.InIdeal.main_v10_2) = v2 c
          ∧ r.2.mem ((c.tc : Thread Cert.InIdeal.nD Cert.InIdeal.τ).loc Cert.InIdeal.main_v10_3) = v3 c
          ∧ r.2.mem ((c.tc : Thread Cert.InIdeal.nD Cert.InIdeal.τ).loc Cert.InIdeal.main_v10_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v35) = v0 c
          ∧ r.2.mem ((c.tc : Thread Cert.InRefIdeal.nD Cert.InRefIdeal.τ).loc Cert.InRefIdeal.main_v36) = v1 c
          ∧ r.2.mem ((c.tc : Thread Cert.InRefIdeal.nD Cert.InRefIdeal.τ).loc Cert.InRefIdeal.main_v38) = v2 c
          ∧ r.2.mem ((c.tc : Thread Cert.InRefIdeal.nD Cert.InRefIdeal.τ).loc Cert.InRefIdeal.main_v39) = v3 c
          ∧ r.2.mem ((c.tc : Thread Cert.InRefIdeal.nD Cert.InRefIdeal.τ).loc Cert.InRefIdeal.main_v19) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v39) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Win_WinIdeal : Prop :=
  IdealRules.named_const.Statement Cert.WinIdeal.κ "mask" .f32 0xF149F2CA#32 ⊥

def algebraic_WinIdeal_WinRefIdeal_pre_scores_finite [hWinIdeal : Cert.WinIdeal.Facts] [hWinRefIdeal : Cert.WinRefIdeal.Facts] [hPre_scores_finite : Cert.Pre_scores_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_scores_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v51)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v51) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v82) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hMoe : Cert.Moe.Facts) (hMoeIdeal : Cert.MoeIdeal.Facts) (hMoeRefIdeal : Cert.MoeRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hWin : Cert.Win.Facts) (hWinIdeal : Cert.WinIdeal.Facts) (hWinRefIdeal : Cert.WinRefIdeal.Facts) (hAda : Cert.Ada.Facts) (hAdaIdeal : Cert.AdaIdeal.Facts) (hAdaRefIdeal : Cert.AdaRefIdeal.Facts) (hPre_routing_finite : Cert.Pre_routing_finite.Facts) (hPre_scores_finite : Cert.Pre_scores_finite.Facts),
    quiescent_Moe (hMoe := hMoe)
    ∧ quiescent_MoeIdeal (hMoeIdeal := hMoeIdeal)
    ∧ quiescent_MoeIdeal_pre_routing_finite (hMoeIdeal := hMoeIdeal) (hPre_routing_finite := hPre_routing_finite)
    ∧ quiescent_MoeRefIdeal (hMoeRefIdeal := hMoeRefIdeal)
    ∧ quiescent_MoeRefIdeal_pre_routing_finite (hMoeRefIdeal := hMoeRefIdeal) (hPre_routing_finite := hPre_routing_finite)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Win (hWin := hWin)
    ∧ quiescent_WinIdeal (hWinIdeal := hWinIdeal)
    ∧ quiescent_WinIdeal_pre_scores_finite (hWinIdeal := hWinIdeal) (hPre_scores_finite := hPre_scores_finite)
    ∧ quiescent_WinRefIdeal (hWinRefIdeal := hWinRefIdeal)
    ∧ quiescent_WinRefIdeal_pre_scores_finite (hWinRefIdeal := hWinRefIdeal) (hPre_scores_finite := hPre_scores_finite)
    ∧ quiescent_Ada (hAda := hAda)
    ∧ quiescent_AdaIdeal (hAdaIdeal := hAdaIdeal)
    ∧ quiescent_AdaRefIdeal (hAdaRefIdeal := hAdaRefIdeal)
    ∧ preserves_Moe_MoeIdeal
    ∧ algebraic_MoeIdeal_MoeRefIdeal_pre_routing_finite (hMoeIdeal := hMoeIdeal) (hMoeRefIdeal := hMoeRefIdeal) (hPre_routing_finite := hPre_routing_finite)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Win_WinIdeal
    ∧ algebraic_WinIdeal_WinRefIdeal_pre_scores_finite (hWinIdeal := hWinIdeal) (hWinRefIdeal := hWinRefIdeal) (hPre_scores_finite := hPre_scores_finite)
    ∧ preserves_Ada_AdaIdeal
    ∧ algebraic_AdaIdeal_AdaRefIdeal (hAdaIdeal := hAdaIdeal) (hAdaRefIdeal := hAdaRefIdeal)
-- ==== Pre_routing_finite.lean ====
abbrev S32768x1024 : Shape := ⟨2, ![32768, 1024]⟩
abbrev S16x1x1024 : Shape := ⟨3, ![16, 1, 1024]⟩
abbrev S1x1024 : Shape := ⟨2, ![1, 1024]⟩
abbrev S1024x8 : Shape := ⟨2, ![1024, 8]⟩
abbrev S2x8x1024x7168 : Shape := ⟨4, ![2, 8, 1024, 7168]⟩
abbrev S2x8x3584x1024 : Shape := ⟨4, ![2, 8, 3584, 1024]⟩
abbrev S_ : Shape := ⟨0, ![]⟩

class Facts : Prop where
  bcast_S_S16x1x1024 : S_.BroadcastsInDim S16x1x1024 (![] : Fin 0 → Fin S16x1x1024.rank)
  bcast_S_S1024x8 : S_.BroadcastsInDim S1024x8 (![] : Fin 0 → Fin S1024x8.rank)

variable [Facts]

def fn {F : FTy → Type} [FloatOps F] (main_arg0 : FVec F S32768x1024 .f32) (main_arg1 : FVec F S16x1x1024 .f32) (main_arg2 : FVec F S16x1x1024 .f32) (main_arg3 : FVec F S16x1x1024 .f32) (main_arg4 : FVec F S1x1024 .f32) (main_arg5 : FVec F S1x1024 .f32) (main_arg6 : FVec F S1024x8 .f32) (main_arg7 : FVec F S2x8x1024x7168 .f32) (main_arg8 : FVec F S2x8x3584x1024 .f32) : IVec S16x1x1024 1 × IVec S16x1x1024 1 × IVec S1024x8 1 :=
  let main_v0 : FVec F S16x1x1024 .f32 := Host.absf main_arg1
  let main_cst : FVec F S_ .f32 := constant S_ .f32 0x7F800000#32
  let main_v1 : FVec F S16x1x1024 .f32 := broadcastInDim S16x1x1024 ![] bcast_S_S16x1x1024 main_cst
  let main_v2 : IVec S16x1x1024 1 := cmpf .olt main_v0 main_v1
  let main_v3 : FVec F S16x1x1024 .f32 := Host.absf main_arg2
  let main_cst_0 : FVec F S_ .f32 := constant S_ .f32 0x7F800000#32
  let main_v4 : FVec F S16x1x1024 .f32 := broadcastInDim S16x1x1024 ![] bcast_S_S16x1x1024 main_cst_0
  let main_v5 : IVec S16x1x1024 1 := cmpf .olt main_v3 main_v4
  let main_v6 : FVec F S1024x8 .f32 := Host.absf main_arg6
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  (main_v2, main_v5, main_v8)
-- ==== Pre_scores_finite.lean ====
abbrev S16x2048x512 : Shape := ⟨3, ![16, 2048, 512]⟩
abbrev S16x2048x256 : Shape := ⟨3, ![16, 2048, 256]⟩
abbrev S32x8 : Shape := ⟨2, ![32, 8]⟩
abbrev S16x2048x4x128 : Shape := ⟨4, ![16, 2048, 4, 128]⟩
abbrev S16x2048x2x64 : Shape := ⟨4, ![16, 2048, 2, 64]⟩
abbrev S_ : Shape := ⟨0, ![]⟩

class Facts : Prop where
  bitsLt_bf16_f32 : FTy.bits .bf16 < FTy.bits .f32
  shapeCasts_S16x2048x512_S16x2048x4x128 : S16x2048x512.ShapeCasts S16x2048x4x128
  slices_S16x2048x4x128_S16x2048x2x64_0_0_2_0 : S16x2048x4x128.Slices ![0, 0, 2, 0] S16x2048x2x64
  bcast_S_S16x2048x512 : S_.BroadcastsInDim S16x2048x512 (![] : Fin 0 → Fin S16x2048x512.rank)
  bcast_S_S16x2048x2x64 : S_.BroadcastsInDim S16x2048x2x64 (![] : Fin 0 → Fin S16x2048x2x64.rank)
  bcast_S_S32x8 : S_.BroadcastsInDim S32x8 (![] : Fin 0 → Fin S32x8.rank)

variable [Facts]

def fn {F : FTy → Type} [FloatOps F] (main_arg0 : FVec F S16x2048x512 .bf16) (main_arg1 : FVec F S16x2048x512 .bf16) (main_arg2 : FVec F S16x2048x256 .f32) (main_arg3 : FVec F S32x8 .f32) : IVec S16x2048x512 1 × IVec S16x2048x2x64 1 × IVec S32x8 1 :=
  let main_v0 : FVec F S16x2048x512 .f32 := (extf .f32 · bitsLt_bf16_f32) main_arg1
  let main_v1 : FVec F S16x2048x4x128 .f32 := shapeCast S16x2048x4x128 main_v0 shapeCasts_S16x2048x512_S16x2048x4x128
  let main_v2 : FVec F S16x2048x2x64 .f32 := (extractStridedSlice S16x2048x2x64 ![0, 0, 2, 0] · slices_S16x2048x4x128_S16x2048x2x64_0_0_2_0) main_v1
  let main_v3 : FVec F S16x2048x512 .f32 := (extf .f32 · bitsLt_bf16_f32) main_arg0
  let main_v4 : FVec F S16x2048x512 .f32 := Host.absf main_v3
  let main_cst : FVec F S_ .f32 := constant S_ .f32 0x7F800000#32
  let main_v5 : FVec F S16x2048x512 .f32 := broadcastInDim S16x2048x512 ![] bcast_S_S16x2048x512 main_cst
  let main_v6 : IVec S16x2048x512 1 := cmpf .olt main_v4 main_v5
  let main_v7 : FVec F S16x2048x2x64 .f32 := Host.absf main_v2
  let main_cst_0 : FVec F S_ .f32 := constant S_ .f32 0x7F800000#32
  let main_v8 : FVec F S16x2048x2x64 .f32 := broadcastInDim S16x2048x2x64 ![] bcast_S_S16x2048x2x64 main_cst_0
  let main_v9 : IVec S16x2048x2x64 1 := cmpf .olt main_v7 main_v8
  let main_v10 : FVec F S32x8 .f32 := Host.absf main_arg3
  let main_cst_1 : FVec F S_ .f32 := constant S_ .f32 0x7F800000#32
  let main_v11 : FVec F S32x8 .f32 := broadcastInDim S32x8 ![] bcast_S_S32x8 main_cst_1
  let main_v12 : IVec S32x8 1 := cmpf .olt main_v10 main_v11
  (main_v6, main_v9, main_v12)
-- ==== Moe.lean ====
abbrev S32768x1024 : Shape := ⟨2, ![32768, 1024]⟩
abbrev S16x1x1024 : Shape := ⟨3, ![16, 1, 1024]⟩
abbrev S1x1024 : Shape := ⟨2, ![1, 1024]⟩
abbrev S1024x8 : Shape := ⟨2, ![1024, 8]⟩
abbrev S2x8x1024x7168 : Shape := ⟨4, ![2, 8, 1024, 7168]⟩
abbrev S2x8x3584x1024 : Shape := ⟨4, ![2, 8, 3584, 1024]⟩
abbrev S_ : Shape := ⟨0, ![]⟩
abbrev S1024x128 : Shape := ⟨2, ![1024, 128]⟩
abbrev S1024x1024 : Shape := ⟨2, ![1024, 1024]⟩
abbrev S1x1x1024 : Shape := ⟨3, ![1, 1, 1024]⟩
abbrev S1x1x1024x512 : Shape := ⟨4, ![1, 1, 1024, 512]⟩
abbrev S1x1x512x1024 : Shape := ⟨4, ![1, 1, 512, 1024]⟩
abbrev S8x1024x1 : Shape := ⟨3, ![8, 1024, 1]⟩
abbrev S1024 : Shape := ⟨1, ![1024]⟩
abbrev S1024x1 : Shape := ⟨2, ![1024, 1]⟩
abbrev S1x1024x1 : Shape := ⟨3, ![1, 1024, 1]⟩
abbrev S1024x512 : Shape := ⟨2, ![1024, 512]⟩
abbrev S512x1024 : Shape := ⟨2, ![512, 1024]⟩

abbrev nBuf : Space → Nat
  | .hbm => 13
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1x1024, .f32⟩
  | .hbm, ⟨6, _⟩ => ⟨S1024x8, .f32⟩
  | .hbm, ⟨7, _⟩ => ⟨S2x8x1024x7168, .f32⟩
  | .hbm, ⟨8, _⟩ => ⟨S2x8x3584x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x128, .f32⟩
  | .local _ .vmem, ⟨11, _⟩ => ⟨S1x1x1024x512, .f32⟩
  | .local _ .vmem, ⟨12, _⟩ => ⟨S1x1x1024x512, .f32⟩
  | .local _ .vmem, ⟨13, _⟩ => ⟨S1x1x1024x512, .f32⟩
  | .local _ .vmem, ⟨14, _⟩ => ⟨S1x1x1024x512, .f32⟩
  | .local _ .vmem, ⟨15, _⟩ => ⟨S1x1x512x1024, .f32⟩
  | .local _ .vmem, ⟨16, _⟩ => ⟨S1x1x512x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | .local _ .vmem, ⟨21, _⟩ => ⟨S8x1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![32, 8, 7], ![false, false, false]⟩

def k0_off1 (i : grid0.Coords) : Fin 3 → Nat :=
  let arg1 : BitVec 32 := BitVec.ofNat 32 (i 1).val
  let v19 : Index := Scalar.indexCast arg1
  let c0_14 : Index := 0#32
  let c0_15 : Index := 0#32
  ![v19.toNat, 0, 0]
def k0_cond2 (i : grid0.Coords) : BitVec 1 :=
  let arg1 : BitVec 32 := BitVec.ofNat 32 (i 1).val
  let c7_i32 : BitVec 32 := 7#32
  let v32 : BitVec 1 := Scalar.cmpi .eq arg1 c7_i32
  let arg2 : BitVec 32 := BitVec.ofNat 32 (i 2).val
  let c6_i32 : BitVec 32 := 6#32
  let v33 : BitVec 1 := Scalar.cmpi .eq arg2 c6_i32
  let v34 : BitVec 1 := Scalar.andi v32 v33
  let v35 : BitVec 32 := Scalar.extui v34
  let c0_i32_23 : BitVec 32 := 0#32
  let v36 : BitVec 1 := Scalar.cmpi .ne v35 c0_i32_23
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg2
  let c0_i32 : BitVec 32 := 0#32
  let c0_i32_0 : BitVec 32 := 0#32
  let c0_i32_1 : BitVec 32 := 0#32
  ![c0_i32.toNat, arg1.toNat, c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg2.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== MoeRefIdeal.lean ====
abbrev S32768x1024 : Shape := ⟨2, ![32768, 1024]⟩
abbrev S16x1x1024 : Shape := ⟨3, ![16, 1, 1024]⟩
abbrev S1x1024 : Shape := ⟨2, ![1, 1024]⟩
abbrev S1024x8 : Shape := ⟨2, ![1024, 8]⟩
abbrev S2x8x1024x7168 : Shape := ⟨4, ![2, 8, 1024, 7168]⟩
abbrev S2x8x3584x1024 : Shape := ⟨4, ![2, 8, 3584, 1024]⟩
abbrev S16x2048x1024 : Shape := ⟨3, ![16, 2048, 1024]⟩
abbrev S_ : Shape := ⟨0, ![]⟩
abbrev S1x8x1024x7168 : Shape := ⟨4, ![1, 8, 1024, 7168]⟩
abbrev S8x1024x7168 : Shape := ⟨3, ![8, 1024, 7168]⟩
abbrev S1x8x3584x1024 : Shape := ⟨4, ![1, 8, 3584, 1024]⟩
abbrev S8x3584x1024 : Shape := ⟨3, ![8, 3584, 1024]⟩
abbrev S32768x8 : Shape := ⟨2, ![32768, 8]⟩
abbrev S32768x2 : Shape := ⟨2, ![32768, 2]⟩
abbrev S32768 : Shape := ⟨1, ![32768]⟩
abbrev S32768x1 : Shape := ⟨2, ![32768, 1]⟩
abbrev S32768x2x1 : Shape := ⟨3, ![32768, 2, 1]⟩
abbrev S8 : Shape := ⟨1, ![8]⟩
abbrev S1x1x8 : Shape := ⟨3, ![1, 1, 8]⟩
abbrev S32768x2x8 : Shape := ⟨3, ![32768, 2, 8]⟩
abbrev S32768x8x7168 : Shape := ⟨3, ![32768, 8, 7168]⟩
abbrev S32768x8x3584 : Shape := ⟨3, ![32768, 8, 3584]⟩
abbrev S8x32768x1024 : Shape := ⟨3, ![8, 32768, 1024]⟩
abbrev S8x32768 : Shape := ⟨2, ![8, 32768]⟩
abbrev S8x32768x1 : Shape := ⟨3, ![8, 32768, 1]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1x1024, .f32⟩
  | .hbm, ⟨6, _⟩ => ⟨S1024x8, .f32⟩
  | .hbm, ⟨7, _⟩ => ⟨S2x8x1024x7168, .f32⟩
  | .hbm, ⟨8, _⟩ => ⟨S2x8x3584x1024, .f32⟩
  | .hbm, ⟨9, _⟩ => ⟨S16x2048x1024, .f32⟩
  | .hbm, ⟨10, _⟩ => ⟨S_, .f32⟩
  | .hbm, ⟨11, _⟩ => ⟨S16x1x1024, .f32⟩
  | .hbm, ⟨12, _⟩ => ⟨S16x1x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S32768x1024, .f32⟩
  | .hbm, ⟨18, _⟩ => ⟨S1x8x1024x7168, .f32⟩
  | .hbm, ⟨19, _⟩ => ⟨S8x1024x7168, .f32⟩
  | .hbm, ⟨20, _⟩ => ⟨S1x8x3584x1024, .f32⟩
  | .hbm, ⟨21, _⟩ => ⟨S8x3584x1024, .f32⟩
  | .hbm, ⟨22, _⟩ => ⟨S32768x8, .f32⟩
  | .hbm, ⟨23, _⟩ => ⟨S32768x2, .f32⟩
  | .hbm, ⟨24, _⟩ => ⟨S32768x2, .i32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x2, .f32⟩
  | .hbm, ⟨32, _⟩ => ⟨S32768x2, .f32⟩
  | .hbm, ⟨33, _⟩ => ⟨S32768x2, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x2, .f32⟩
  | .hbm, ⟨38, _⟩ => ⟨S32768x2, .f32⟩
  | .hbm, ⟨39, _⟩ => ⟨S32768x2x1, .i32⟩
  | .hbm, ⟨40, _⟩ => ⟨S8, .i32⟩
  | .hbm, ⟨41, _⟩ => ⟨S1x1x8, .i32⟩
  | .hbm, ⟨42, _⟩ => ⟨S32768x2x8, .i32⟩
  | .hbm, ⟨43, _⟩ => ⟨S32768x2x8, .i32⟩
  | .hbm, ⟨44, _⟩ => ⟨S32768x2x8, .i1⟩
  | .hbm, ⟨45, _⟩ => ⟨S32768x2x1, .f32⟩
  | .hbm, ⟨46, _⟩ => ⟨S_, .f32⟩
  | .hbm, ⟨47, _⟩ => ⟨S_, .f32⟩
  | .hbm, ⟨48, _⟩ => ⟨S32768x2x8, .f32⟩
  | .hbm, ⟨49, _⟩ => ⟨S32768x2x8, .f32⟩
  | .hbm, ⟨50, _⟩ => ⟨S32768x2x8, .f32⟩
  | .hbm, ⟨51, _⟩ => ⟨S_, .f32⟩
  | .hbm, ⟨52, _⟩ => ⟨S32768x8, .f32⟩
  | .hbm, ⟨53, _⟩ => ⟨S32768x8x7168, .f32⟩
  | .hbm, ⟨54, _⟩ => ⟨S32768x8x3584, .f32⟩
  | .hbm, ⟨55, _⟩ => ⟨S32768x8x3584, .f32⟩
  | .hbm, ⟨56, _⟩ => ⟨S32768x8x3584, .f32⟩
  | .hbm, ⟨57, _⟩ => ⟨S32768x8x3584, .f32⟩
  | .hbm, ⟨58, _⟩ => ⟨S_, .f32⟩
  | .hbm, ⟨59, _⟩ => ⟨S32768x8x3584, .f32⟩
  | .hbm, ⟨60, _⟩ => ⟨S32768x8x3584, .f32⟩
  | .hbm, ⟨61, _⟩ => ⟨S_, .f32⟩
  | .hbm, ⟨62, _⟩ => ⟨S32768x8x3584, .f32⟩
  | .hbm, ⟨63, _⟩ => ⟨S32768x8x3584, .f32⟩
  | .hbm, ⟨64, _⟩ => ⟨S32768x8x3584, .f32⟩
  | .hbm, ⟨65, _⟩ => ⟨S32768x8x3584, .f32⟩
  | .hbm, ⟨66, _⟩ => ⟨S8x32768x1024, .f32⟩
  | .hbm, ⟨67, _⟩ => ⟨S8x32768, .f32⟩
  | .hbm, ⟨68, _⟩ => ⟨S8x32768x1, .f32⟩
  | .hbm, ⟨69, _⟩ => ⟨S8x32768x1024, .f32⟩
  | .hbm, ⟨70, _⟩ => ⟨S8x32768x1024, .f32⟩
  | .hbm, ⟨71, _⟩ => ⟨S_, .f32⟩
  | .hbm, ⟨72, _⟩ => ⟨S32768x1024, .f32⟩
  | .hbm, ⟨73, _⟩ => ⟨S16x2048x1024, .f32⟩
  | .hbm, ⟨74, _⟩ => ⟨S_, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x1x1024, .f32⟩
  | .hbm, ⟨79, _⟩ => ⟨S16x1x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S16x2048, .f32⟩
  | .hbm, ⟨87, _⟩ => ⟨S16x2048x1, .f32⟩
  | .hbm, ⟨88, _⟩ => ⟨S_, .f32⟩
  | .hbm, ⟨89, _⟩ => ⟨S16x2048x1, .f32⟩
  | .hbm, ⟨90, _⟩ => ⟨S16x2048x1, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048, .f32⟩
  | .hbm, ⟨96, _⟩ => ⟨S16x2048x1, .f32⟩
  | .hbm, ⟨97, _⟩ => ⟨S_, .f32⟩
  | .hbm, ⟨98, _⟩ => ⟨S16x2048x1, .f32⟩
  | .hbm, ⟨99, _⟩ => ⟨S16x2048x1, .f32⟩
  | .hbm, ⟨100, _⟩ => ⟨S16x2048x1024, .f32⟩
  | .hbm, ⟨101, _⟩ => ⟨S16x2048x1024, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1, .f32⟩
  | .hbm, ⟨106, _⟩ => ⟨S16x2048x1024, .f32⟩
  | .hbm, ⟨107, _⟩ => ⟨S16x2048x1024, .f32⟩
  | .hbm, ⟨108, _⟩ => ⟨S1x1x1024, .f32⟩
  | .hbm, ⟨109, _⟩ => ⟨S16x2048x1024, .f32⟩
  | .hbm, ⟨110, _⟩ => ⟨S16x2048x1024, .f32⟩
  | .hbm, ⟨111, _⟩ => ⟨S1x1x1024, .f32⟩
  | .hbm, ⟨112, _⟩ => ⟨S16x2048x1024, .f32⟩
  | .hbm, ⟨113, _⟩ => ⟨S16x2048x1024, .f32⟩
  | .hbm, ⟨114, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_values : Ref sig .tc := ⟨.hbm, 23, rfl⟩
abbrev main_indices : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Up.lean ====
abbrev S32768x1024 : Shape := ⟨2, ![32768, 1024]⟩
abbrev S16x1x1024 : Shape := ⟨3, ![16, 1, 1024]⟩
abbrev S2x1024x5632 : Shape := ⟨3, ![2, 1024, 5632]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S32768x2816 : Shape := ⟨2, ![32768, 2816]⟩
abbrev S512x1024 : Shape := ⟨2, ![512, 1024]⟩
abbrev S1x1x1024 : Shape := ⟨3, ![1, 1, 1024]⟩
abbrev S512x2816 : Shape := ⟨2, ![512, 2816]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 13
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S2x1024x5632, .f32⟩
  | .hbm, ⟨4, _⟩ => ⟨S2x1024x2816, .f32⟩
  | .hbm, ⟨5, _⟩ => ⟨S2x1024x2816, .bf16⟩
  | .hbm, ⟨6, _⟩ => ⟨S2x1024x2816, .f32⟩
  | .hbm, ⟨7, _⟩ => ⟨S2x1024x2816, .bf16⟩
  | .hbm, ⟨8, _⟩ => ⟨S1x1024x2816, .bf16⟩
  | .hbm, ⟨9, _⟩ => ⟨S1024x2816, .bf16⟩
  | .hbm, ⟨10, _⟩ => ⟨S1x1024x2816, .bf16⟩
  | .hbm, ⟨11, _⟩ => ⟨S1024x2816, .bf16⟩
  | .hbm, ⟨12, _⟩ => ⟨S32768x2816, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1024x2816, .bf16⟩
  | .local _ .vmem, ⟨8, _⟩ => ⟨S512x2816, .bf16⟩
  | .local _ .vmem, ⟨9, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpRefIdeal.lean ====
abbrev S32768x1024 : Shape := ⟨2, ![32768, 1024]⟩
abbrev S16x1x1024 : Shape := ⟨3, ![16, 1, 1024]⟩
abbrev S2x1024x5632 : Shape := ⟨3, ![2, 1024, 5632]⟩
abbrev S16x2048x1024 : Shape := ⟨3, ![16, 2048, 1024]⟩
abbrev S_ : Shape := ⟨0, ![]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S32768x2816 : Shape := ⟨2, ![32768, 2816]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S2x1024x5632, .f32⟩
  | .hbm, ⟨4, _⟩ => ⟨S16x2048x1024, .f32⟩
  | .hbm, ⟨5, _⟩ => ⟨S_, .f32⟩
  | .hbm, ⟨6, _⟩ => ⟨S16x1x1024, .f32⟩
  | .hbm, ⟨7, _⟩ => ⟨S16x1x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S1x1024x5632, .f32⟩
  | .hbm, ⟨13, _⟩ => ⟨S1024x5632, .f32⟩
  | .hbm, ⟨14, _⟩ => ⟨S16x2048x5632, .f32⟩
  | .hbm, ⟨15, _⟩ => ⟨S16x2048x2816, .f32⟩
  | .hbm, ⟨16, _⟩ => ⟨S16x2048x2816, .f32⟩
  | .hbm, ⟨17, _⟩ => ⟨S16x2048x2816, .f32⟩
  | .hbm, ⟨18, _⟩ => ⟨S16x2048x2816, .f32⟩
  | .hbm, ⟨19, _⟩ => ⟨S_, .f32⟩
  | .hbm, ⟨20, _⟩ => ⟨S16x2048x2816, .f32⟩
  | .hbm, ⟨21, _⟩ => ⟨S16x2048x2816, .f32⟩
  | .hbm, ⟨22, _⟩ => ⟨S_, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S16x2048x2816, .f32⟩
  | .hbm, ⟨27, _⟩ => ⟨S32768x2816, .f32⟩
  | .hbm, ⟨28, _⟩ => ⟨S32768x2816, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Out.lean ====
abbrev S32768x1024 : Shape := ⟨2, ![32768, 1024]⟩
abbrev S16x1x1024 : Shape := ⟨3, ![16, 1, 1024]⟩
abbrev S1x1024 : Shape := ⟨2, ![1, 1024]⟩
abbrev S32768x512 : Shape := ⟨2, ![32768, 512]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S1x1024, .f32⟩
  | .hbm, ⟨3, _⟩ => ⟨S1x1024, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S4x1024x1024, .f32⟩
  | .hbm, ⟨9, _⟩ => ⟨S4x1024x1024, .bf16⟩
  | .hbm, ⟨10, _⟩ => ⟨S1x1024x1024, .bf16⟩
  | .hbm, ⟨11, _⟩ => ⟨S1024x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S32768x1024 : Shape := ⟨2, ![32768, 1024]⟩
abbrev S16x1x1024 : Shape := ⟨3, ![16, 1, 1024]⟩
abbrev S1x1024 : Shape := ⟨2, ![1, 1024]⟩
abbrev S32768x512 : Shape := ⟨2, ![32768, 512]⟩
abbrev S4x1024x1024 : Shape := ⟨3, ![4, 1024, 1024]⟩
abbrev S16x2048x1024 : Shape := ⟨3, ![16, 2048, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S1x1024, .f32⟩
  | .hbm, ⟨3, _⟩ => ⟨S1x1024, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S4x1024x1024, .f32⟩
  | .hbm, ⟨9, _⟩ => ⟨S16x2048x1024, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x1024, .f32⟩
  | .hbm, ⟨17, _⟩ => ⟨S1x1024x1024, .f32⟩
  | .hbm, ⟨18, _⟩ => ⟨S1024x1024, .f32⟩
  | .hbm, ⟨19, _⟩ => ⟨S32768x1024, .f32⟩
  | .hbm, ⟨20, _⟩ => ⟨S_, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== In.lean ====
abbrev S32768x1024 : Shape := ⟨2, ![32768, 1024]⟩
abbrev S16x1x1024 : Shape := ⟨3, ![16, 1, 1024]⟩
abbrev S4x1024x2328 : Shape := ⟨3, ![4, 1024, 2328]⟩
abbrev S2560 : Shape := ⟨1, ![2560]⟩
abbrev S1x1x2560 : Shape := ⟨3, ![1, 1, 2560]⟩
abbrev S_ : Shape := ⟨0, ![]⟩
abbrev S2560x1 : Shape := ⟨2, ![2560, 1]⟩
abbrev S4x1024x2560 : Shape := ⟨3, ![4, 1024, 2560]⟩
abbrev S1x1024x2560 : Shape := ⟨3, ![1, 1024, 2560]⟩
abbrev S1024x2560 : Shape := ⟨2, ![1024, 2560]⟩
abbrev S32768x512 : Shape := ⟨2, ![32768, 512]⟩
abbrev S32768x256 : Shape := ⟨2, ![32768, 256]⟩
abbrev S512x1024 : Shape := ⟨2, ![512, 1024]⟩
abbrev S1x1x1024 : Shape := ⟨3, ![1, 1, 1024]⟩
abbrev S512x512 : Shape := ⟨2, ![512, 512]⟩
abbrev S512x256 : Shape := ⟨2, ![512, 256]⟩
abbrev S1x1024 : Shape := ⟨2, ![1, 1024]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 27
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S4x1024x2328, .f32⟩
  | .hbm, ⟨4, _⟩ => ⟨S2560, .i1⟩
  | .hbm, ⟨5, _⟩ => ⟨S2560, .i32⟩
  | .hbm, ⟨6, _⟩ => ⟨S2560, .i1⟩
  | .hbm, ⟨7, _⟩ => ⟨S1x1x2560, .i1⟩
  | .hbm, ⟨8, _⟩ => ⟨S_, .i32⟩
  | .hbm, ⟨9, _⟩ => ⟨S2560, .i32⟩
  | .hbm, ⟨10, _⟩ => ⟨S2560, .i32⟩
  | .hbm, ⟨11, _⟩ => ⟨S2560, .i32⟩
  | .hbm, ⟨12, _⟩ => ⟨S2560x1, .i32⟩
  | .hbm, ⟨13, _⟩ => ⟨S4x1024x2560, .f32⟩
  | .hbm, ⟨14, _⟩ => ⟨S_, .f32⟩
  | .hbm, ⟨15, _⟩ => ⟨S_, .f32⟩
  | .hbm, ⟨16, _⟩ => ⟨S4x1024x2560, .i1⟩
  | .hbm, ⟨17, _⟩ => ⟨S4x1024x2560, .f32⟩
  | .hbm, ⟨18, _⟩ => ⟨S4x1024x2560, .f32⟩
  | .hbm, ⟨19, _⟩ => ⟨S4x1024x2560, .bf16⟩
  | .hbm, ⟨20, _⟩ => ⟨S1x1024x2560, .bf16⟩
  | .hbm, ⟨21, _⟩ => ⟨S1024x2560, .bf16⟩
  | .hbm, ⟨22, _⟩ => ⟨S32768x512, .bf16⟩
  | .hbm, ⟨23, _⟩ => ⟨S32768x256, .f32⟩
  | .hbm, ⟨24, _⟩ => ⟨S32768x512, .bf16⟩
  | .hbm, ⟨25, _⟩ => ⟨S32768x256, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2560, .bf16⟩
  | .local _ .vmem, ⟨7, _⟩ => ⟨S512x512, .bf16⟩
  | .local _ .vmem, ⟨8, _⟩ => ⟨S512x512, .bf16⟩
  | .local _ .vmem, ⟨9, _⟩ => ⟨S512x256, .f32⟩
  | .local _ .vmem, ⟨10, _⟩ => ⟨S512x256, .f32⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S32768x1024 : Shape := ⟨2, ![32768, 1024]⟩
abbrev S16x1x1024 : Shape := ⟨3, ![16, 1, 1024]⟩
abbrev S4x1024x2328 : Shape := ⟨3, ![4, 1024, 2328]⟩
abbrev S16x2048x1024 : Shape := ⟨3, ![16, 2048, 1024]⟩
abbrev S_ : Shape := ⟨0, ![]⟩
abbrev S1x1024x2328 : Shape := ⟨3, ![1, 1024, 2328]⟩
abbrev S1024x2328 : Shape := ⟨2, ![1024, 2328]⟩
abbrev S32768x2328 : Shape := ⟨2, ![32768, 2328]⟩
abbrev S32768x512 : Shape := ⟨2, ![32768, 512]⟩
abbrev S32768x128 : Shape := ⟨2, ![32768, 128]⟩
abbrev S32768x24 : Shape := ⟨2, ![32768, 24]⟩
abbrev S32768x2x64 : Shape := ⟨3, ![32768, 2, 64]⟩
abbrev S32768x2x128 : Shape := ⟨3, ![32768, 2, 128]⟩
abbrev S32768x256 : Shape := ⟨2, ![32768, 256]⟩
abbrev S32768x2x4x3 : Shape := ⟨4, ![32768, 2, 4, 3]⟩
abbrev S32768x2x3x4 : Shape := ⟨4, ![32768, 2, 3, 4]⟩
abbrev S32768x2x12 : Shape := ⟨3, ![32768, 2, 12]⟩
abbrev S32768x2x116 : Shape := ⟨3, ![32768, 2, 116]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S4x1024x2328, .f32⟩
  | .hbm, ⟨4, _⟩ => ⟨S16x2048x1024, .f32⟩
  | .hbm, ⟨5, _⟩ => ⟨S_, .f32⟩
  | .hbm, ⟨6, _⟩ => ⟨S16x1x1024, .f32⟩
  | .hbm, ⟨7, _⟩ => ⟨S16x1x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S32768x1024, .f32⟩
  | .hbm, ⟨13, _⟩ => ⟨S1x1024x2328, .f32⟩
  | .hbm, ⟨14, _⟩ => ⟨S1024x2328, .f32⟩
  | .hbm, ⟨15, _⟩ => ⟨S32768x2328, .f32⟩
  | .hbm, ⟨16, _⟩ => ⟨S32768x512, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S32768x24, .f32⟩
  | .hbm, ⟨24, _⟩ => ⟨S32768x1024, .f32⟩
  | .hbm, ⟨25, _⟩ => ⟨S32768x2x64, .f32⟩
  | .hbm, ⟨26, _⟩ => ⟨S32768x2x64, .f32⟩
  | .hbm, ⟨27, _⟩ => ⟨S32768x2x64, .f32⟩
  | .hbm, ⟨28, _⟩ => ⟨S32768x2x64, .f32⟩
  | .hbm, ⟨29, _⟩ => ⟨S32768x2x128, .f32⟩
  | .hbm, ⟨30, _⟩ => ⟨S32768x256, .f32⟩
  | .hbm, ⟨31, _⟩ => ⟨S32768x2x128, .f32⟩
  | .hbm, ⟨32, _⟩ => ⟨S32768x256, .f32⟩
  | .hbm, ⟨33, _⟩ => ⟨S32768x2x4x3, .f32⟩
  | .hbm, ⟨34, _⟩ => ⟨S32768x2x3x4, .f32⟩
  | .hbm, ⟨35, _⟩ => ⟨S32768x2x12, .f32⟩
  | .hbm, ⟨36, _⟩ => ⟨S_, .f32⟩
  | .hbm, ⟨37, _⟩ => ⟨S32768x2x116, .f32⟩
  | .hbm, ⟨38, _⟩ => ⟨S32768x2x128, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x512, .bf16⟩
  | .hbm, ⟨43, _⟩ => ⟨S32768x256, .f32⟩
  | .hbm, ⟨44, _⟩ => ⟨S32768x512, .f32⟩
  | .hbm, ⟨45, _⟩ => ⟨S32768x512, .bf16⟩
  | .hbm, ⟨46, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Down.lean ====
abbrev S32768x1024 : Shape := ⟨2, ![32768, 1024]⟩
abbrev S16x1x1024 : Shape := ⟨3, ![16, 1, 1024]⟩
abbrev S1x1024 : Shape := ⟨2, ![1, 1024]⟩
abbrev S32768x2816 : Shape := ⟨2, ![32768, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S512x1024 : Shape := ⟨2, ![512, 1024]⟩
abbrev S1x1x1024 : Shape := ⟨3, ![1, 1, 1024]⟩
abbrev S512x2816 : Shape := ⟨2, ![512, 2816]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S1x1024, .f32⟩
  | .hbm, ⟨3, _⟩ => ⟨S1x1024, .f32⟩
  | .hbm, ⟨4, _⟩ => ⟨S32768x2816, .bf16⟩
  | .hbm, ⟨5, _⟩ => ⟨S2x2816x1024, .f32⟩
  | .hbm, ⟨6, _⟩ => ⟨S2x2816x1024, .bf16⟩
  | .hbm, ⟨7, _⟩ => ⟨S1x2816x1024, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024, .f32⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S32768x1024 : Shape := ⟨2, ![32768, 1024]⟩
abbrev S16x1x1024 : Shape := ⟨3, ![16, 1, 1024]⟩
abbrev S1x1024 : Shape := ⟨2, ![1, 1024]⟩
abbrev S32768x2816 : Shape := ⟨2, ![32768, 2816]⟩
abbrev S2x2816x1024 : Shape := ⟨3, ![2, 2816, 1024]⟩
abbrev S16x2048x1024 : Shape := ⟨3, ![16, 2048, 1024]⟩
abbrev S1x2816x1024 : Shape := ⟨3, ![1, 2816, 1024]⟩
abbrev S2816x1024 : Shape := ⟨2, ![2816, 1024]⟩
abbrev S_ : Shape := ⟨0, ![]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S1x1024, .f32⟩
  | .hbm, ⟨3, _⟩ => ⟨S1x1024, .f32⟩
  | .hbm, ⟨4, _⟩ => ⟨S32768x2816, .bf16⟩
  | .hbm, ⟨5, _⟩ => ⟨S2x2816x1024, .f32⟩
  | .hbm, ⟨6, _⟩ => ⟨S16x2048x1024, .f32⟩
  | .hbm, ⟨7, _⟩ => ⟨S32768x2816, .f32⟩
  | .hbm, ⟨8, _⟩ => ⟨S1x2816x1024, .f32⟩
  | .hbm, ⟨9, _⟩ => ⟨S2816x1024, .f32⟩
  | .hbm, ⟨10, _⟩ => ⟨S32768x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x1x1024, .f32⟩
  | .hbm, ⟨17, _⟩ => ⟨S16x1x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Win.lean ====
abbrev S16x2048x512 : Shape := ⟨3, ![16, 2048, 512]⟩
abbrev S16x2048x256 : Shape := ⟨3, ![16, 2048, 256]⟩
abbrev S32x8 : Shape := ⟨2, ![32, 8]⟩
abbrev S128 : Shape := ⟨1, ![128]⟩
abbrev S1x128x1 : Shape := ⟨3, ![1, 128, 1]⟩
abbrev S1x1x128 : Shape := ⟨3, ![1, 1, 128]⟩
abbrev S5 : Shape := ⟨1, ![5]⟩
abbrev S5x1x1 : Shape := ⟨3, ![5, 1, 1]⟩
abbrev S_ : Shape := ⟨0, ![]⟩
abbrev S5x128x1 : Shape := ⟨3, ![5, 128, 1]⟩
abbrev S5x128x128 : Shape := ⟨3, ![5, 128, 128]⟩
abbrev S5x128x128x1 : Shape := ⟨4, ![5, 128, 128, 1]⟩
abbrev S5x128x128x8 : Shape := ⟨4, ![5, 128, 128, 8]⟩
abbrev S5x128x128x2x4 : Shape := ⟨5, ![5, 128, 128, 2, 4]⟩
abbrev S2x5x4x128x128 : Shape := ⟨5, ![2, 5, 4, 128, 128]⟩
abbrev S2x5x512x128 : Shape := ⟨4, ![2, 5, 512, 128]⟩
abbrev S1x128x256 : Shape := ⟨3, ![1, 128, 256]⟩
abbrev S1x2048x128 : Shape := ⟨3, ![1, 2048, 128]⟩
abbrev S1x5x512x128 : Shape := ⟨4, ![1, 5, 512, 128]⟩
abbrev S1x128x128 : Shape := ⟨3, ![1, 128, 128]⟩
abbrev S128x256 : Shape := ⟨2, ![128, 256]⟩
abbrev S128x64 : Shape := ⟨2, ![128, 64]⟩
abbrev S128x128 : Shape := ⟨2, ![128, 128]⟩
abbrev S512x128 : Shape := ⟨2, ![512, 128]⟩
abbrev S512x1 : Shape := ⟨2, ![512, 1]⟩
abbrev S1x1x512x128 : Shape := ⟨4, ![1, 1, 512, 128]⟩
abbrev S512 : Shape := ⟨1, ![512]⟩
abbrev S128x1 : Shape := ⟨2, ![128, 1]⟩

abbrev nBuf : Space → Nat
  | .hbm => 73
  | .vmem => 10
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .f32⟩
  | .hbm, ⟨3, _⟩ => ⟨S32x8, .f32⟩
  | .hbm, ⟨4, _⟩ => ⟨S128, .i32⟩
  | .hbm, ⟨5, _⟩ => ⟨S1x128x1, .i32⟩
  | .hbm, ⟨6, _⟩ => ⟨S128, .i32⟩
  | .hbm, ⟨7, _⟩ => ⟨S1x1x128, .i32⟩
  | .hbm, ⟨8, _⟩ => ⟨S5, .i32⟩
  | .hbm, ⟨9, _⟩ => ⟨S5x1x1, .i32⟩
  | .hbm, ⟨10, _⟩ => ⟨S_, .i32⟩
  | .hbm, ⟨11, _⟩ => ⟨S5x1x1, .i32⟩
  | .hbm, ⟨12, _⟩ => ⟨S5x1x1, .i32⟩
  | .hbm, ⟨13, _⟩ => ⟨S5x128x1, .i32⟩
  | .hbm, ⟨14, _⟩ => ⟨S5x128x1, .i32⟩
  | .hbm, ⟨15, _⟩ => ⟨S5x128x1, .i32⟩
  | .hbm, ⟨16, _⟩ => ⟨S5x128x128, .i32⟩
  | .hbm, ⟨17, _⟩ => ⟨S5x128x128, .i32⟩
  | .hbm, ⟨18, _⟩ => ⟨S5x128x128, .i32⟩
  | .hbm, ⟨19, _⟩ => ⟨S_, .i32⟩
  | .hbm, ⟨20, _⟩ => ⟨S5x128x128, .i32⟩
  | .hbm, ⟨21, _⟩ => ⟨S5x128x128, .i1⟩
  | .hbm, ⟨22, _⟩ => ⟨S_, .i32⟩
  | .hbm, ⟨23, _⟩ => ⟨S5x128x128, .i32⟩
  | .hbm, ⟨24, _⟩ => ⟨S5x128x128, .i1⟩
  | .hbm, ⟨25, _⟩ => ⟨S5x128x128, .i1⟩
  | .hbm, ⟨26, _⟩ => ⟨S_, .i32⟩
  | .hbm, ⟨27, _⟩ => ⟨S5x128x128, .i32⟩
  | .hbm, ⟨28, _⟩ => ⟨S5x128x128, .i32⟩
  | .hbm, ⟨29, _⟩ => ⟨S_, .i32⟩
  | .hbm, ⟨30, _⟩ => ⟨S5x128x128, .i32⟩
  | .hbm, ⟨31, _⟩ => ⟨S5x128x128, .i32⟩
  | .hbm, ⟨32, _⟩ => ⟨S5x128x128, .f32⟩
  | .hbm, ⟨33, _⟩ => ⟨S_, .f32⟩
  | .hbm, ⟨34, _⟩ => ⟨S5x128x128, .f32⟩
  | .hbm, ⟨35, _⟩ => ⟨S5x128x128, .f32⟩
  | .hbm, ⟨36, _⟩ => ⟨S5x128x128, .f32⟩
  | .hbm, ⟨37, _⟩ => ⟨S_, .f32⟩
  | .hbm, ⟨38, _⟩ => ⟨S5x128x128, .f32⟩
  | .hbm, ⟨39, _⟩ => ⟨S5x128x128, .f32⟩
  | .hbm, ⟨40, _⟩ => ⟨S_, .f32⟩
  | .hbm, ⟨41, _⟩ => ⟨S5x128x128, .f32⟩
  | .hbm, ⟨42, _⟩ => ⟨S5x128x128, .f32⟩
  | .hbm, ⟨43, _⟩ => ⟨S5x128x128, .i32⟩
  | .hbm, ⟨44, _⟩ => ⟨S_, .i32⟩
  | .hbm, ⟨45, _⟩ => ⟨S5x128x128, .i32⟩
  | .hbm, ⟨46, _⟩ => ⟨S5x128x128, .i32⟩
  | .hbm, ⟨47, _⟩ => ⟨S_, .i32⟩
  | .hbm, ⟨48, _⟩ => ⟨S5x128x128, .i32⟩
  | .hbm, ⟨49, _⟩ => ⟨S5x128x128, .i32⟩
  | .hbm, ⟨50, _⟩ => ⟨S_, .i32⟩
  | .hbm, ⟨51, _⟩ => ⟨S5x128x128, .i32⟩
  | .hbm, ⟨52, _⟩ => ⟨S5x128x128, .i1⟩
  | .hbm, ⟨53, _⟩ => ⟨S5x128x128, .i32⟩
  | .hbm, ⟨54, _⟩ => ⟨S_, .i32⟩
  | .hbm, ⟨55, _⟩ => ⟨S5x128x128, .i32⟩
  | .hbm, ⟨56, _⟩ => ⟨S5x128x128, .i1⟩
  | .hbm, ⟨57, _⟩ => ⟨S_, .i32⟩
  | .hbm, ⟨58, _⟩ => ⟨S5x128x128, .i32⟩
  | .hbm, ⟨59, _⟩ => ⟨S5x128x128, .i32⟩
  | .hbm, ⟨60, _⟩ => ⟨S5x128x128, .i32⟩
  | .hbm, ⟨61, _⟩ => ⟨S5x128x128x1, .i32⟩
  | .hbm, ⟨62, _⟩ => ⟨S5x128x128x8, .f32⟩
  | .hbm, ⟨63, _⟩ => ⟨S5x128x128x1, .i1⟩
  | .hbm, ⟨64, _⟩ => ⟨S_, .f32⟩
  | .hbm, ⟨65, _⟩ => ⟨S_, .f32⟩
  | .hbm, ⟨66, _⟩ => ⟨S5x128x128x8, .i1⟩
  | .hbm, ⟨67, _⟩ => ⟨S5x128x128x8, .f32⟩
  | .hbm, ⟨68, _⟩ => ⟨S5x128x128x8, .f32⟩
  | .hbm, ⟨69, _⟩ => ⟨S5x128x128x2x4, .f32⟩
  | .hbm, ⟨70, _⟩ => ⟨S2x5x4x128x128, .f32⟩
  | .hbm, ⟨71, _⟩ => ⟨S2x5x512x128, .f32⟩
  | .hbm, ⟨72, _⟩ => ⟨S16x2048x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x5x512x128, .f32⟩
  | .local _ .vmem, ⟨5, _⟩ => ⟨S1x5x512x128, .f32⟩
  | .local _ .vmem, ⟨6, _⟩ => ⟨S1x128x128, .f32⟩
  | .local _ .vmem, ⟨7, _⟩ => ⟨S1x128x128, .f32⟩
  | .local _ .vmem, ⟨8, _⟩ => ⟨S1x128x256, .bf16⟩
  | .local _ .vmem, ⟨9, _⟩ => ⟨S1x128x256, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 16], ![false, false, false]⟩

@[reducible] def k0_t1_loop (i : grid0.Coords) : Scf.Loop 32 :=
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32 : BitVec 32 := 1#32
  let v17 : BitVec 32 := Scalar.addi arg2 c1_i32
  let v18 : BitVec 32 := Scalar.subi v17 v13
  let c1_i32_5 : BitVec 32 := 1#32
  let v20 : BitVec 32 := Scalar.divsi v18 c1_i32_5
  let v21 : BitVec 32 := Scalar.muli v20 c1_i32_5
  let v22 : BitVec 32 := Scalar.addi v13 v21
  let c1_i32_6 : BitVec 32 := 1#32
  ⟨v13, v22, c1_i32_6⟩
def k0_mult1 (i : grid0.Coords) (k0_t1 : Fin (k0_t1_loop i).trips) : BitVec 32 :=
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32_6 : BitVec 32 := 1#32
  let arg8 : BitVec 32 := Scf.iv v13 c1_i32_6 k0_t1
  let c128_i32 : BitVec 32 := 128#32
  let v54 : BitVec 32 := Scalar.muli arg8 c128_i32
  v54
def k0_off1 (i : grid0.Coords) (k0_t1 : Fin (k0_t1_loop i).trips) : Fin 3 → Nat :=
  let c0_14 : Index := 0#32
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32_6 : BitVec 32 := 1#32
  let arg8 : BitVec 32 := Scf.iv v13 c1_i32_6 k0_t1
  let c128_i32 : BitVec 32 := 128#32
  let v54 : BitVec 32 := Scalar.muli arg8 c128_i32
  let v55 : BitVec 32 := v54
  let v56 : Index := Scalar.indexCast v55
  let c0_15 : Index := 0#32
  ![0, v56.toNat, 0]
def k0_off2 (i : grid0.Coords) (k0_t1 : Fin (k0_t1_loop i).trips) : Fin 4 → Nat :=
  let c0_18 : Index := 0#32
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32_6 : BitVec 32 := 1#32
  let arg8 : BitVec 32 := Scf.iv v13 c1_i32_6 k0_t1
  let v59 : BitVec 32 := Scalar.subi arg2 arg8
  let c4_i32_16 : BitVec 32 := 4#32
  let v60 : BitVec 32 := Scalar.minsi v59 c4_i32_16
  let v62 : Index := Scalar.indexCast v60
  let c0_19 : Index := 0#32
  let c0_20 : Index := 0#32
  ![0, v62.toNat, 0, 0]
@[reducible] def k0_t2_loop (i : grid0.Coords) : Scf.Loop 32 :=
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32 : BitVec 32 := 1#32
  let v17 : BitVec 32 := Scalar.addi arg2 c1_i32
  let v18 : BitVec 32 := Scalar.subi v17 v13
  let c1_i32_5 : BitVec 32 := 1#32
  let v20 : BitVec 32 := Scalar.divsi v18 c1_i32_5
  let v21 : BitVec 32 := Scalar.muli v20 c1_i32_5
  let v22 : BitVec 32 := Scalar.addi v13 v21
  let v19 : BitVec 32 := Scalar.addi v13 v18
  let c1_i32_7 : BitVec 32 := 1#32
  ⟨v22, v19, c1_i32_7⟩
def k0_mult2 (i : grid0.Coords) (k0_t2 : Fin (k0_t2_loop i).trips) : BitVec 32 :=
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32 : BitVec 32 := 1#32
  let v17 : BitVec 32 := Scalar.addi arg2 c1_i32
  let v18 : BitVec 32 := Scalar.subi v17 v13
  let c1_i32_5 : BitVec 32 := 1#32
  let v20 : BitVec 32 := Scalar.divsi v18 c1_i32_5
  let v21 : BitVec 32 := Scalar.muli v20 c1_i32_5
  let v22 : BitVec 32 := Scalar.addi v13 v21
  let c1_i32_7 : BitVec 32 := 1#32
  let arg8 : BitVec 32 := Scf.iv v22 c1_i32_7 k0_t2
  let c128_i32 : BitVec 32 := 128#32
  let v54 : BitVec 32 := Scalar.muli arg8 c128_i32
  v54
def k0_off3 (i : grid0.Coords) (k0_t2 : Fin (k0_t2_loop i).trips) : Fin 3 → Nat :=
  let c0_14 : Index := 0#32
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32 : BitVec 32 := 1#32
  let v17 : BitVec 32 := Scalar.addi arg2 c1_i32
  let v18 : BitVec 32 := Scalar.subi v17 v13
  let c1_i32_5 : BitVec 32 := 1#32
  let v20 : BitVec 32 := Scalar.divsi v18 c1_i32_5
  let v21 : BitVec 32 := Scalar.muli v20 c1_i32_5
  let v22 : BitVec 32 := Scalar.addi v13 v21
  let c1_i32_7 : BitVec 32 := 1#32
  let arg8 : BitVec 32 := Scf.iv v22 c1_i32_7 k0_t2
  let c128_i32 : BitVec 32 := 128#32
  let v54 : BitVec 32 := Scalar.muli arg8 c128_i32
  let v55 : BitVec 32 := v54
  let v56 : Index := Scalar.indexCast v55
  let c0_15 : Index := 0#32
  ![0, v56.toNat, 0]
def k0_off4 (i : grid0.Coords) (k0_t2 : Fin (k0_t2_loop i).trips) : Fin 4 → Nat :=
  let c0_18 : Index := 0#32
  let arg2 : BitVec 32 := BitVec.ofNat 32 (i 2).val
  let c4_i32 : BitVec 32 := 4#32
  let v12 : BitVec 32 := Scalar.subi arg2 c4_i32
  let c0_i32 : BitVec 32 := 0#32
  let v13 : BitVec 32 := Scalar.maxsi v12 c0_i32
  let c1_i32 : BitVec 32 := 1#32
  let v17 : BitVec 32 := Scalar.addi arg2 c1_i32
  let v18 : BitVec 32 := Scalar.subi v17 v13
  let c1_i32_5 : BitVec 32 := 1#32
  let v20 : BitVec 32 := Scalar.divsi v18 c1_i32_5
  let v21 : BitVec 32 := Scalar.muli v20 c1_i32_5
  let v22 : BitVec 32 := Scalar.addi v13 v21
  let c1_i32_7 : BitVec 32 := 1#32
  let arg8 : BitVec 32 := Scf.iv v22 c1_i32_7 k0_t2
  let v59 : BitVec 32 := Scalar.subi arg2 arg8
  let c4_i32_16 : BitVec 32 := 4#32
  let v60 : BitVec 32 := Scalar.minsi v59 c4_i32_16
  let v62 : Index := Scalar.indexCast v60
  let c0_19 : Index := 0#32
  let c0_20 : Index := 0#32
  ![0, v62.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x5x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== WinIdeal.lean ====
variable {F : FTy → Type} [FloatOps F] [Named F]
def κ : String → Option EReal := fun
  | "mask" => some ⊥
  | _ => none
-- ==== WinRefIdeal.lean ====
abbrev S16x2048x512 : Shape := ⟨3, ![16, 2048, 512]⟩
abbrev S16x2048x256 : Shape := ⟨3, ![16, 2048, 256]⟩
abbrev S32x8 : Shape := ⟨2, ![32, 8]⟩
abbrev S16x2048x2x4x64 : Shape := ⟨5, ![16, 2048, 2, 4, 64]⟩
abbrev S16x2048x2x2x64 : Shape := ⟨5, ![16, 2048, 2, 2, 64]⟩
abbrev S16x2048x2x128 : Shape := ⟨4, ![16, 2048, 2, 128]⟩
abbrev S16x2048x2x4 : Shape := ⟨4, ![16, 2048, 2, 4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S2048x2048x2x4 : Shape := ⟨4, ![2048, 2048, 2, 4]⟩
abbrev S2x4x2048x2048 : Shape := ⟨4, ![2, 4, 2048, 2048]⟩
abbrev S16x2048x2x1x64 : Shape := ⟨5, ![16, 2048, 2, 1, 64]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S1x2x4x2048x2048 : Shape := ⟨5, ![1, 2, 4, 2048, 2048]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x2x4x1 : Shape := ⟨5, ![16, 2048, 2, 4, 1]⟩

abbrev nBuf : Space → Nat
  | .hbm => 112
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .f32⟩
  | .hbm, ⟨3, _⟩ => ⟨S32x8, .f32⟩
  | .hbm, ⟨4, _⟩ => ⟨S16x2048x2x4x64, .bf16⟩
  | .hbm, ⟨5, _⟩ => ⟨S16x2048x2x4x64, .f32⟩
  | .hbm, ⟨6, _⟩ => ⟨S16x2048x256, .bf16⟩
  | .hbm, ⟨7, _⟩ => ⟨S16x2048x2x2x64, .bf16⟩
  | .hbm, ⟨8, _⟩ => ⟨S16x2048x2x2x64, .f32⟩
  | .hbm, ⟨9, _⟩ => ⟨S16x2048x2x128, .f32⟩
  | .hbm, ⟨10, _⟩ => ⟨S16x2048x2x4, .f32⟩
  | .hbm, ⟨11, _⟩ => ⟨S16x2048x2x4, .f32⟩
  | .hbm, ⟨12, _⟩ => ⟨S16x2048x2x4, .f32⟩
  | .hbm, ⟨13, _⟩ => ⟨S_, .f32⟩
  | .hbm, ⟨14, _⟩ => ⟨S16x2048x2x4, .f32⟩
  | .hbm, ⟨15, _⟩ => ⟨S16x2048x2x4, .f32⟩
  | .hbm, ⟨16, _⟩ => ⟨S_, .f32⟩
  | .hbm, ⟨17, _⟩ => ⟨S16x2048x2x4, .f32⟩
  | .hbm, ⟨18, _⟩ => ⟨S16x2048x2x4, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S2048x2048, .i1⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i1⟩
  | .hbm, ⟨60, _⟩ => ⟨S2048x2048, .i32⟩
  | .hbm, ⟨61, _⟩ => ⟨S_, .i32⟩
  | .hbm, ⟨62, _⟩ => ⟨S2048x2048, .i32⟩
  | .hbm, ⟨63, _⟩ => ⟨S2048x2048, .i1⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S2048x2048, .i32⟩
  | .hbm, ⟨68, _⟩ => ⟨S2048x2048x1, .i32⟩
  | .hbm, ⟨69, _⟩ => ⟨S2048x2048x8, .f32⟩
  | .hbm, ⟨70, _⟩ => ⟨S2048x2048x2x4, .f32⟩
  | .hbm, ⟨71, _⟩ => ⟨S2x4x2048x2048, .f32⟩
  | .hbm, ⟨72, _⟩ => ⟨S16x2048x2x1x64, .f32⟩
  | .hbm, ⟨73, _⟩ => ⟨S16x2048x2x64, .f32⟩
  | .hbm, ⟨74, _⟩ => ⟨S16x2x2048x2048x4, .f32⟩
  | .hbm, ⟨75, _⟩ => ⟨S16x2x4x2048x2048, .f32⟩
  | .hbm, ⟨76, _⟩ => ⟨S1x2x4x2048x2048, .f32⟩
  | .hbm, ⟨77, _⟩ => ⟨S16x2x4x2048x2048, .f32⟩
  | .hbm, ⟨78, _⟩ => ⟨S16x2x4x2048x2048, .f32⟩
  | .hbm, ⟨79, _⟩ => ⟨S_, .f32⟩
  | .hbm, ⟨80, _⟩ => ⟨S_, .f32⟩
  | .hbm, ⟨81, _⟩ => ⟨S16x2x4x2048x2048, .i1⟩
  | .hbm, ⟨82, _⟩ => ⟨S16x2x4x2048x2048, .f32⟩
  | .hbm, ⟨83, _⟩ => ⟨S16x2x4x2048x2048, .f32⟩
  | .hbm, ⟨84, _⟩ => ⟨S_, .f32⟩
  | .hbm, ⟨85, _⟩ => ⟨S16x2x4x2048, .f32⟩
  | .hbm, ⟨86, _⟩ => ⟨S_, .f32⟩
  | .hbm, ⟨87, _⟩ => ⟨S16x2x4x2048, .f32⟩
  | .hbm, ⟨88, _⟩ => ⟨S16x2x4x2048, .f32⟩
  | .hbm, ⟨89, _⟩ => ⟨S16x2x4x2048x1, .f32⟩
  | .hbm, ⟨90, _⟩ => ⟨S16x2x4x2048x2048, .f32⟩
  | .hbm, ⟨91, _⟩ => ⟨S16x2x4x2048x2048, .f32⟩
  | .hbm, ⟨92, _⟩ => ⟨S16x2x4x2048x2048, .f32⟩
  | .hbm, ⟨93, _⟩ => ⟨S_, .f32⟩
  | .hbm, ⟨94, _⟩ => ⟨S16x2x4x2048, .f32⟩
  | .hbm, ⟨95, _⟩ => ⟨S16x2x4x2048x1, .f32⟩
  | .hbm, ⟨96, _⟩ => ⟨S16x2x4x2048x2048, .f32⟩
  | .hbm, ⟨97, _⟩ => ⟨S16x2x4x2048x2048, .f32⟩
  | .hbm, ⟨98, _⟩ => ⟨S_, .f32⟩
  | .hbm, ⟨99, _⟩ => ⟨S_, .f32⟩
  | .hbm, ⟨100, _⟩ => ⟨S16x2x4x2048x2048, .i1⟩
  | .hbm, ⟨101, _⟩ => ⟨S16x2x4x2048x2048, .f32⟩
  | .hbm, ⟨102, _⟩ => ⟨S16x2x4x2048x2048, .f32⟩
  | .hbm, ⟨103, _⟩ => ⟨S16x2048x2x1x64, .f32⟩
  | .hbm, ⟨104, _⟩ => ⟨S16x2048x2x64, .f32⟩
  | .hbm, ⟨105, _⟩ => ⟨S16x2x64x4x2048, .f32⟩
  | .hbm, ⟨106, _⟩ => ⟨S16x2048x2x4x64, .f32⟩
  | .hbm, ⟨107, _⟩ => ⟨S16x2048x2x4x1, .f32⟩
  | .hbm, ⟨108, _⟩ => ⟨S16x2048x2x4x64, .f32⟩
  | .hbm, ⟨109, _⟩ => ⟨S16x2048x2x4x64, .f32⟩
  | .hbm, ⟨110, _⟩ => ⟨S16x2048x512, .f32⟩
  | .hbm, ⟨111, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Ada.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x6x16x1024 : Shape := ⟨4, ![4, 6, 16, 1024]⟩
abbrev S1x1024x1024 : Shape := ⟨3, ![1, 1024, 1024]⟩
abbrev S1x1x1024 : Shape := ⟨3, ![1, 1, 1024]⟩
abbrev S1x1x16x1024 : Shape := ⟨4, ![1, 1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x6x16x1024, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x16x1024, .f32⟩
  | .local _ .vmem, ⟨6, _⟩ => ⟨S1x1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩
abbrev S4x16x6x1024 : Shape := ⟨4, ![4, 16, 6, 1024]⟩
abbrev S4x6x16x1024 : Shape := ⟨4, ![4, 6, 16, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | .hbm, ⟨17, _⟩ => ⟨S4x16x6x1024, .f32⟩
  | .hbm, ⟨18, _⟩ => ⟨S4x6x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Moe.Points.lean ====
/-
  The kernel's grid points: point `t` is step `t % 56` of token block `t / 56`, expert `t % 56 / 7`, hidden block
  `t % 7`; the block index of every window there.
-/
module

public import proofs.«01_k».proof.Proof.Gen.MoeIdeal.Value
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.MoeIdeal.Hand

open Cert.MoeIdeal Cert.MoeIdeal.Gen Cert.MoeIdeal.Value Idealize.ShloMosaic Idealize.ShloMosaic.TcCoe Idealize.SL.Sem

/-- The windows' block indices at every point. -/
theorem index (t : Fin cfg0.N) :
    (win0_0.index t = ![t.val / 56, 0] ∧ win0_1.index t = ![t.val / 112, 0, 0] ∧ win0_2.index t = ![t.val / 112, 0, 0]
      ∧ win0_3.index t = ![t.val / 112, 0, 0] ∧ win0_4.index t = ![0, 0])
    ∧ (win0_5.index t = ![0, 0] ∧ win0_6.index t = ![0, 0]
      ∧ win0_7.index t = ![0, t.val % 56 / 7, 0, t.val % 7] ∧ win0_8.index t = ![0, t.val % 56 / 7, 0, 7 + t.val % 7]
      ∧ win0_9.index t = ![0, t.val % 56 / 7, t.val % 7, 0]) := by
  revert t; decide +kernel

theorem coord1 (t : Fin cfg0.N) : (grid0.coords t 1).val = t.val % 56 / 7 := by
  revert t; decide +kernel

theorem lt_N (t : Fin cfg0.N) : t.val < 1792 := t.isLt

/-- The token `r` of the block of point `t`. -/
def tok (t : Fin cfg0.N) (r : Fin 1024) : Fin 32768 := ⟨1024 * (t.val / 56) + r, by have := lt_N t; omega⟩

/-- The batch of the block of point `t`. -/
def bat (t : Fin cfg0.N) : Fin 16 := ⟨t.val / 112, by have := lt_N t; omega⟩

/-- The expert of point `t`. -/
def exq (t : Fin cfg0.N) : Fin 8 := ⟨t.val % 56 / 7, by omega⟩

/-- The gate's column `j` of point `t`'s block. -/
def gcol (t : Fin cfg0.N) (j : Fin 512) : Fin 7168 := ⟨512 * (t.val % 7) + j, by omega⟩
/-- The up projection's column `j` of point `t`'s block. -/
def ucol (t : Fin cfg0.N) (j : Fin 512) : Fin 7168 := ⟨3584 + (512 * (t.val % 7) + j), by omega⟩
/-- The second layer's row `j` of point `t`'s block. -/
def hrow (t : Fin cfg0.N) (j : Fin 512) : Fin 3584 := ⟨512 * (t.val % 7) + j, by omega⟩

end Cert.MoeIdeal.Hand

end
-- ==== Proof.Moe.Blocks.lean ====
/-
  What each window of the kernel holds at a grid point, read at an index.
-/
module

public import proofs.«01_k».proof.Proof.Moe.Points
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.MoeIdeal.Hand

open Cert.MoeIdeal Cert.MoeIdeal.Gen Cert.MoeIdeal.Value Idealize.ShloMosaic Idealize.ShloMosaic.TcCoe Idealize.SL.Sem

variable (m : (ℓ : Loc nD τ sig) → Buf (Elt Ideal) ℓ)

theorem iblk0 (c : Dev nD) (t : Fin cfg0.N) (r k : Fin 1024) :
    iblk m c 0 t (ix2 r k) = m ((c : Thread nD τ).loc main_arg0) (ix2 (tok t r) k) := by
  obtain ⟨⟨h0, h1, h2, h3, h4⟩, h5, h6, h7, h8, h9⟩ := index t
  blk_ext [iblk, V, h0, tok]

theorem iblk1 (c : Dev nD) (t : Fin cfg0.N) (k : Fin 1024) :
    iblk m c 1 t (ix3 0 0 k) = m ((c : Thread nD τ).loc main_arg1) (ix3 (bat t) 0 k) := by
  obtain ⟨⟨h0, h1, h2, h3, h4⟩, h5, h6, h7, h8, h9⟩ := index t
  blk_ext [iblk, V, h1, bat]

theorem iblk2 (c : Dev nD) (t : Fin cfg0.N) (k : Fin 1024) :
    iblk m c 2 t (ix3 0 0 k) = m ((c : Thread nD τ).loc main_arg2) (ix3 (bat t) 0 k) := by
  obtain ⟨⟨h0, h1, h2, h3, h4⟩, h5, h6, h7, h8, h9⟩ := index t
  blk_ext [iblk, V, h2, bat]

theorem iblk3 (c : Dev nD) (t : Fin cfg0.N) (k : Fin 1024) :
    iblk m c 3 t (ix3 0 0 k) = m ((c : Thread nD τ).loc main_arg3) (ix3 (bat t) 0 k) := by
  obtain ⟨⟨h0, h1, h2, h3, h4⟩, h5, h6, h7, h8, h9⟩ := index t
  blk_ext [iblk, V, h3, bat]

theorem iblk4 (c : Dev nD) (t : Fin cfg0.N) (k : Fin 1024) :
    iblk m c 4 t (ix2 0 k) = m ((c : Thread nD τ).loc main_arg4) (ix2 0 k) := by
  obtain ⟨⟨h0, h1, h2, h3, h4⟩, h5, h6, h7, h8, h9⟩ := index t
  blk_ext [iblk, V, h4]

theorem iblk5 (c : Dev nD) (t : Fin cfg0.N) (k : Fin 1024) :
    iblk m c 5 t (ix2 0 k) = m ((c : Thread nD τ).loc main_arg5) (ix2 0 k) := by
  obtain ⟨⟨h0, h1, h2, h3, h4⟩, h5, h6, h7, h8, h9⟩ := index t
  blk_ext [iblk, V, h5]

/-- The router's eight columns in the first eight of 128 lanes, zero in the rest. -/
def padded (R : Fin 1024 → Fin 8 → EReal) (k : Fin 1024) (l : Fin 128) : EReal := if h : l.val < 8 then R k ⟨l.val, h⟩ else 0

/-- The router's weights padded on the host to 128 lanes. -/
def padRouter (x : FVec Ideal S1024x8 .f32) : FVec Ideal S1024x128 .f32 :=
  pad S1024x128 ![0, 0] ![0, 120] ![0, 0] x (sitofp .f32 (constantI S_ 32 0#32)) pads_S1024x8_S1024x128_000_01200 h_S_

theorem padRouter_apply (x : FVec Ideal S1024x8 .f32) (k : Fin 1024) (l : Fin 128) :
    padRouter x (ix2 k l) = padded (fun k e => x (ix2 k e)) k l := by
  pointwise [padRouter]
  unfold padded
  split
  · rfl
  · exact (by simp : (((0#32 : BitVec 32).toInt : ℝ) : EReal) = 0)

/-- What the host leaves of the router's weights before the kernel starts. -/
theorem V_router (c : Dev nD) : V m c main_v0 = padRouter (m ((c : Thread nD τ).loc main_arg6)) := by
  unfold V hostOps0 hostOps0_1
  simp only [List.flatten_cons, List.flatten_nil, List.append_nil, List.cons_append, List.nil_append]
  after_results
  rfl

/-- The router's window: the router's eight columns in the first eight lanes, zero in the rest. -/
theorem iblk6 (c : Dev nD) (t : Fin cfg0.N) (k : Fin 1024) (l : Fin 128) :
    iblk m c 6 t (ix2 k l) = padded (fun k e => m ((c : Thread nD τ).loc main_arg6) (ix2 k e)) k l := by
  obtain ⟨⟨h0, h1, h2, h3, h4⟩, h5, h6, h7, h8, h9⟩ := index t
  have h : iblk m c 6 t (ix2 k l) = V m c main_v0 (ix2 k l) := by blk_ext [iblk, h6]
  rw [h, V_router]
  exact padRouter_apply _ k l

theorem iblk7 (c : Dev nD) (t : Fin cfg0.N) (k : Fin 1024) (j : Fin 512) :
    iblk m c 7 t (ix4 0 0 k j) = m ((c : Thread nD τ).loc main_arg7) (ix4 0 (exq t) k (gcol t j)) := by
  obtain ⟨⟨h0, h1, h2, h3, h4⟩, h5, h6, h7, h8, h9⟩ := index t
  blk_ext [iblk, V, h7, exq, gcol]

theorem iblk8 (c : Dev nD) (t : Fin cfg0.N) (k : Fin 1024) (j : Fin 512) :
    iblk m c 8 t (ix4 0 0 k j) = m ((c : Thread nD τ).loc main_arg7) (ix4 0 (exq t) k (ucol t j)) := by
  obtain ⟨⟨h0, h1, h2, h3, h4⟩, h5, h6, h7, h8, h9⟩ := index t
  blk_ext [iblk, V, h8, exq, ucol]

theorem iblk9 (c : Dev nD) (t : Fin cfg0.N) (j : Fin 512) (n : Fin 1024) :
    iblk m c 9 t (ix4 0 0 j n) = m ((c : Thread nD τ).loc main_arg8) (ix4 0 (exq t) (hrow t j) n) := by
  obtain ⟨⟨h0, h1, h2, h3, h4⟩, h5, h6, h7, h8, h9⟩ := index t
  blk_ext [iblk, V, h9, exq, hrow]

end Cert.MoeIdeal.Hand

end
-- ==== Proof.Moe.TopTwo.lean ====
/-
  The stable descending sort of a row, at its first two places.

  The reference picks the two greatest of a row of eight logits by a stable descending sort (equal elements in index
  order). This module states what that sort puts at places 0 and 1, in a form that does not mention sorting: place 0 is
  the LEADER of the row (no element is greater, and no equal element stands before it), and place 1 is the leader of the
  row without place 0.
-/
module

public import Idealize.ShloMosaic.Lib.SortFacts
public import Mathlib.Data.EReal.Operations

@[expose] public section

noncomputable section

namespace Cert.TopTwo

open Idealize.ShloMosaic

variable {n : ℕ}

/-- `Leads x a b`: place `a` comes before place `b` in the descending order of `x`, equal elements in index order. -/
def Leads (x : Fin n → EReal) (a b : Fin n) : Prop := x b < x a ∨ (x a = x b ∧ a < b)

theorem Leads.trans {x : Fin n → EReal} {a b c : Fin n} (hab : Leads x a b) (hbc : Leads x b c) : Leads x a c := by
  rcases hab with h | ⟨h, h'⟩ <;> rcases hbc with k | ⟨k, k'⟩
  · exact .inl (k.trans h)
  · exact .inl (k ▸ h)
  · exact .inl (h ▸ k)
  · exact .inr ⟨h.trans k, h'.trans k'⟩

/-- What leads is at least as great. -/
theorem Leads.le {x : Fin n → EReal} {a b : Fin n} (h : Leads x a b) : x b ≤ x a := by
  rcases h with h | ⟨h, _⟩
  · exact h.le
  · exact h.ge

/-- What leads an equal element stands before it. -/
theorem Leads.lt_of_eq {x : Fin n → EReal} {a b : Fin n} (h : Leads x a b) (e : x b = x a) : a < b := by
  rcases h with h | ⟨_, h⟩
  · exact absurd e h.ne
  · exact h

/-- "Strictly greater", the comparison of the descending sort. -/
def gtBefore (x : Fin n → EReal) (a b : Fin n) : Bool := decide (x b < x a)

/-- Inserting `a`, an earlier place than every one of the list, keeps the list in the order of `Leads`. -/
theorem pairwise_insert (x : Fin n → EReal) (a : Fin n) (l : List (Fin n)) (hl : l.Pairwise (Leads x))
    (ha : ∀ b ∈ l, a < b) : (insertBefore (gtBefore x) a l).Pairwise (Leads x) := by
  induction l with
  | nil => exact List.pairwise_singleton _ _
  | cons b l ih =>
    rw [List.pairwise_cons] at hl
    have hb := ha b List.mem_cons_self
    unfold insertBefore
    split
    next hR =>
      have hR : x a < x b := of_decide_eq_true hR
      refine List.pairwise_cons.mpr ⟨fun c hc => ?_, ih hl.2 fun c hc => ha c (List.mem_cons_of_mem b hc)⟩
      rcases List.mem_cons.mp ((perm_insertBefore (gtBefore x) a l).mem_iff.mp hc) with rfl | hc
      · exact .inl hR
      · exact hl.1 c hc
    next hR =>
      have hR : x b ≤ x a := not_lt.mp fun h => hR (decide_eq_true h)
      have hab : Leads x a b := by
        rcases hR.lt_or_eq with h | h
        · exact .inl h
        · exact .inr ⟨h.symm, hb⟩
      refine List.pairwise_cons.mpr ⟨fun c hc => ?_, List.pairwise_cons.mpr hl⟩
      rcases List.mem_cons.mp hc with rfl | hc
      · exact hab
      · exact hab.trans (hl.1 c hc)

/-- A stable descending sort of places in increasing order is in the order of `Leads`. -/
theorem pairwise_sort (x : Fin n → EReal) (l : List (Fin n)) (hl : l.Pairwise (· < ·)) :
    (stableSort (gtBefore x) l).Pairwise (Leads x) := by
  induction l with
  | nil => exact List.Pairwise.nil
  | cons a l ih =>
    rw [List.pairwise_cons] at hl
    unfold stableSort
    exact pairwise_insert x a _ (ih hl.2) fun b hb => hl.1 b ((perm_stableSort _ l).mem_iff.mp hb)

/-- An earlier place of the sorted row leads a later one. -/
theorem leads_sortedFrom (x : Fin n → EReal) {i j : Fin n} (hij : i < j) :
    Leads x (sortedFrom (gtBefore x) i) (sortedFrom (gtBefore x) j) :=
  List.pairwise_iff_get.mp (pairwise_sort x (List.finRange n) (List.pairwise_lt_finRange n)) _ _ hij

/-- The place of the greatest element, the first of equal ones. -/
def first (x : Fin 8 → EReal) : Fin 8 := sortedFrom (gtBefore x) 0

/-- The place of the second greatest element, the first of equal ones. -/
def second (x : Fin 8 → EReal) : Fin 8 := sortedFrom (gtBefore x) 1

/-- `first` leads every other place. -/
theorem first_leads (x : Fin 8 → EReal) {b : Fin 8} (hb : b ≠ first x) : Leads x (first x) b := by
  obtain ⟨k, rfl⟩ := sortedFrom_surjective (gtBefore x) b
  refine leads_sortedFrom x (Fin.pos_iff_ne_zero.mpr ?_)
  rintro rfl
  exact hb rfl

theorem second_ne_first (x : Fin 8 → EReal) : second x ≠ first x := fun h =>
  absurd (sortedFrom_injective (gtBefore x) h) (by decide)

/-- `second` leads every place other than `first` and itself. -/
theorem second_leads (x : Fin 8 → EReal) {b : Fin 8} (h1 : b ≠ first x) (h2 : b ≠ second x) : Leads x (second x) b := by
  obtain ⟨k, rfl⟩ := sortedFrom_surjective (gtBefore x) b
  refine leads_sortedFrom x ?_
  have k0 : k ≠ 0 := by rintro rfl; exact h1 rfl
  have k1 : k ≠ 1 := by rintro rfl; exact h2 rfl
  omega

theorem le_first (x : Fin 8 → EReal) (b : Fin 8) : x b ≤ x (first x) := by
  by_cases h : b = first x
  · rw [h]
  · exact (first_leads x h).le

theorem le_second (x : Fin 8 → EReal) {b : Fin 8} (h1 : b ≠ first x) : x b ≤ x (second x) := by
  by_cases h : b = second x
  · rw [h]
  · exact (second_leads x h1 h).le

end Cert.TopTwo

end

end
-- ==== Proof.Moe.Routing.lean ====
/-
  The routing weights. The reference sorts a row's eight logits, takes the softmax of the first two and gives each of
  the two experts its share. The kernel searches 128 lanes, of which eight hold the logits and the rest −∞: the greatest
  lane, the first index that attains it, the same again with that lane set to −∞, and the two shares by `exp (m2 - m1)`.
  Both are the function `weight` here.
-/
module

public import proofs.«01_k».proof.Proof.Moe.TopTwo
public import Idealize.ShloMosaic.PureOps.Ideal
public import Idealize.ShloMosaic.PureOps.Reduce
public import Idealize.ShloMosaic.Lib.WordArith

@[expose] public section

noncomputable section

namespace Cert.Routing

open Idealize.ShloMosaic Cert.TopTwo
open scoped BigOperators

/-- The second greatest logit's exponential, the greatest taken off. -/
def runner (x : Fin 8 → EReal) : EReal := Ideal.exp (x (second x) - x (first x))

/-- The routing weight of expert `e`: a softmax of the two greatest logits, `0` at the other experts. -/
def weight (x : Fin 8 → EReal) (e : Fin 8) : EReal :=
  (if first x = e then Ideal.div 1 (1 + runner x) else 0) + (if second x = e then Ideal.div (runner x) (1 + runner x) else 0)

theorem runner_real {x : Fin 8 → EReal} (hx : ∀ e, ∃ r : ℝ, x e = r) : ∃ r : ℝ, 0 < r ∧ runner x = r := by
  obtain ⟨a, ha⟩ := hx (first x)
  obtain ⟨b, hb⟩ := hx (second x)
  exact ⟨Real.exp (b - a), Real.exp_pos _, by rw [runner, ha, hb, ← EReal.coe_sub, Ideal.exp_coe]⟩

/-- A positive real over one plus a positive real is a nonnegative real. -/
theorem div_one_add {a r : ℝ} (ha : 0 ≤ a) (hr : 0 < r) : ∃ s : ℝ, 0 ≤ s ∧ Ideal.div (a : EReal) (1 + (r : EReal)) = s := by
  have h1 : (1 : EReal) + r = ((1 + r : ℝ) : EReal) := by norm_cast
  have h2 : (0 : ℝ) < 1 + r := by linarith
  refine ⟨a * (1 + r)⁻¹, mul_nonneg ha (inv_nonneg.mpr h2.le), ?_⟩
  rw [h1, Ideal.div, if_neg (by exact_mod_cast h2.ne'), ← EReal.coe_inv, ← EReal.coe_mul]

/-- The weights of finite logits are nonnegative reals. -/
theorem weight_real {x : Fin 8 → EReal} (hx : ∀ e, ∃ r : ℝ, x e = r) (e : Fin 8) : ∃ s : ℝ, 0 ≤ s ∧ weight x e = s := by
  obtain ⟨r, hr, er⟩ := runner_real hx
  obtain ⟨s, hs, es⟩ := div_one_add zero_le_one hr
  obtain ⟨t, ht, et⟩ := div_one_add hr.le hr
  rw [EReal.coe_one] at es
  unfold weight
  rw [er, es, et]
  refine ⟨(if first x = e then s else 0) + (if second x = e then t else 0), ?_, ?_⟩
  · split <;> split <;> linarith
  · split <;> split <;> norm_cast

/-! ### The kernel's lanes -/

/-- Eight logits in 128 lanes, −∞ in the rest. -/
def lane (x : Fin 8 → EReal) (l : Fin 128) : EReal := if h : l.val < 8 then x ⟨l.val, h⟩ else ⊥

/-- An expert's lane. -/
def up (e : Fin 8) : Fin 128 := ⟨e.val, by omega⟩

theorem lane_up (x : Fin 8 → EReal) (e : Fin 8) : lane x (up e) = x e := dif_pos e.isLt

theorem eq_up_of_lt {l : Fin 128} (h : l.val < 8) : l = up ⟨l.val, h⟩ := rfl

theorem up_injective {a b : Fin 8} (h : up a = up b) : a = b := Fin.ext (congrArg (fun l : Fin 128 => l.val) h)

/-- The greatest of the lanes, where one lane is known to be it. -/
theorem fold_max {y : Fin 128 → EReal} {p : Fin 128} (h : ∀ l, y l ≤ y p) : Finset.univ.fold max ⊥ y = y p :=
  le_antisymm (Finset.fold_max_le _ |>.mpr ⟨bot_le, fun l _ => h l⟩)
    ((Finset.le_fold_max _).mpr (.inr ⟨p, Finset.mem_univ p, le_rfl⟩))

theorem minsi_toInt (a b : BitVec 32) : (IntOp.minsi a b).toInt = min a.toInt b.toInt := by
  unfold IntOp.minsi BitVec.slt
  split <;> rename_i h <;> simp only [decide_eq_true_eq] at h <;> omega

/-- The least index of the lanes with a property, where one lane is known to be it. -/
theorem fold_min {P : Fin 128 → Prop} [DecidablePred P] {p : Fin 128} (hp : P p) (hmin : ∀ l, P l → p ≤ l) :
    Finset.univ.fold IntOp.minsi 2147483647#32 (fun l : Fin 128 => if P l then BitVec.ofNat 32 l.val else 128#32)
      = BitVec.ofNat 32 p.val := by
  have hn : ∀ l : Fin 128, (BitVec.ofNat 32 l.val).toInt = l.val := fun l => by
    have := l.isLt
    rw [BitVec.toInt_eq_toNat_of_lt] <;> rw [BitVec.toNat_ofNat] <;> omega
  apply BitVec.eq_of_toInt_eq
  rw [← Finset.fold_hom (op' := min) minsi_toInt, hn]
  refine le_antisymm ((Finset.fold_min_le _).mpr (.inr ⟨p, Finset.mem_univ p, ?_⟩)) ((Finset.le_fold_min _).mpr ⟨?_, fun l _ => ?_⟩)
  · rw [if_pos hp, hn]
  · have := p.isLt
    show (p.val : ℤ) ≤ 2147483647
    omega
  · split
    next h => rw [hn]; exact_mod_cast hmin l h
    next h =>
      have := p.isLt
      show (p.val : ℤ) ≤ 128
      omega

theorem lane_le (x : Fin 8 → EReal) (l : Fin 128) : lane x l ≤ lane x (up (first x)) := by
  rw [lane_up]
  by_cases h : l.val < 8
  · rw [eq_up_of_lt h, lane_up]; exact le_first x _
  · rw [lane, dif_neg h]; exact bot_le

/-- The kernel's greatest lane. -/
theorem max_lane (x : Fin 8 → EReal) : Finset.univ.fold max ⊥ (lane x) = x (first x) := by
  rw [fold_max (lane_le x), lane_up]

/-- The kernel's first index: the first expert of the stable descending sort. -/
theorem arg_lane {x : Fin 8 → EReal} (hx : ∀ e, ∃ r : ℝ, x e = r) :
    Finset.univ.fold IntOp.minsi 2147483647#32
      (fun l : Fin 128 => if lane x l = x (first x) then BitVec.ofNat 32 l.val else 128#32)
      = BitVec.ofNat 32 (first x).val := by
  refine fold_min (P := fun l => lane x l = x (first x)) (p := up (first x)) (lane_up x _) fun l hl => ?_
  by_cases h : l.val < 8
  · rw [eq_up_of_lt h, lane_up] at hl
    show (first x).val ≤ l.val
    by_cases hb : (⟨l.val, h⟩ : Fin 8) = first x
    · exact (congrArg Fin.val hb).ge
    · exact le_of_lt ((first_leads x hb).lt_of_eq hl)
  · obtain ⟨r, hr⟩ := hx (first x)
    rw [lane, dif_neg h, hr] at hl
    exact absurd hl.symm (EReal.coe_ne_bot r)

/-- The lanes with the first expert's set to −∞. -/
def rest (x : Fin 8 → EReal) (l : Fin 128) : EReal := if l = up (first x) then ⊥ else lane x l

theorem rest_up {x : Fin 8 → EReal} {e : Fin 8} (h : e ≠ first x) : rest x (up e) = x e := by
  rw [rest, if_neg fun h' => h (up_injective h'), lane_up]

theorem rest_le (x : Fin 8 → EReal) (l : Fin 128) : rest x l ≤ rest x (up (second x)) := by
  rw [rest_up (second_ne_first x)]
  by_cases h : l.val < 8
  · by_cases hb : (⟨l.val, h⟩ : Fin 8) = first x
    · rw [rest, if_pos (by rw [eq_up_of_lt h, hb])]; exact bot_le
    · rw [eq_up_of_lt h, rest_up hb]; exact le_second x hb
  · have : rest x l = ⊥ := by unfold rest; split <;> [rfl; exact dif_neg h]
    rw [this]; exact bot_le

/-- The kernel's second greatest lane. -/
theorem max_rest (x : Fin 8 → EReal) : Finset.univ.fold max ⊥ (rest x) = x (second x) := by
  rw [fold_max (rest_le x), rest_up (second_ne_first x)]

/-- The kernel's second index: the second expert of the stable descending sort. -/
theorem arg_rest {x : Fin 8 → EReal} (hx : ∀ e, ∃ r : ℝ, x e = r) :
    Finset.univ.fold IntOp.minsi 2147483647#32
      (fun l : Fin 128 => if rest x l = x (second x) then BitVec.ofNat 32 l.val else 128#32)
      = BitVec.ofNat 32 (second x).val := by
  obtain ⟨r, hr⟩ := hx (second x)
  have hbot : x (second x) ≠ ⊥ := hr ▸ EReal.coe_ne_bot r
  refine fold_min (P := fun l => rest x l = x (second x)) (p := up (second x)) (rest_up (second_ne_first x)) fun l hl => ?_
  by_cases h : l.val < 8
  · by_cases hb : (⟨l.val, h⟩ : Fin 8) = first x
    · rw [rest, if_pos (by rw [eq_up_of_lt h, hb])] at hl
      exact absurd hl.symm hbot
    · rw [eq_up_of_lt h, rest_up hb] at hl
      show (second x).val ≤ l.val
      by_cases hs : (⟨l.val, h⟩ : Fin 8) = second x
      · exact (congrArg Fin.val hs).ge
      · exact le_of_lt ((second_leads x hb hs).lt_of_eq hl)
  · have : rest x l = ⊥ := by unfold rest; split <;> [rfl; exact dif_neg h]
    exact absurd (this.symm.trans hl).symm hbot

/-! ### The kernel's search over any 128 lanes -/

/-- The greatest of 128 lanes. -/
def top (y : Fin 128 → EReal) : EReal := Finset.univ.fold max ⊥ y

/-- The first lane that holds the greatest, as a 32-bit word. -/
def arg (y : Fin 128 → EReal) : BitVec 32 :=
  Finset.univ.fold IntOp.minsi 2147483647#32 fun l : Fin 128 => if y l = top y then BitVec.ofNat 32 l.val else 128#32

/-- The lanes with the first greatest set to −∞. -/
def drop (y : Fin 128 → EReal) (l : Fin 128) : EReal := if BitVec.ofNat 32 l.val = arg y then ⊥ else y l

/-- The second greatest lane's exponential, the greatest taken off. -/
def laneExp (y : Fin 128 → EReal) : EReal := Ideal.exp (top (drop y) - top y)

/-- The kernel's routing weight of expert `e`, from its 128 lanes. -/
def laneWeight (y : Fin 128 → EReal) (e : Fin 8) : EReal :=
  (if arg y = BitVec.ofNat 32 e.val then Ideal.div 1 (1 + laneExp y) else 0)
    + (if arg (drop y) = BitVec.ofNat 32 e.val then Ideal.div (laneExp y) (1 + laneExp y) else 0)

theorem ofNat_inj {a b : ℕ} (ha : a < 128) (hb : b < 128) : BitVec.ofNat 32 a = BitVec.ofNat 32 b ↔ a = b := by
  refine ⟨fun h => ?_, fun h => h ▸ rfl⟩
  have := congrArg BitVec.toNat h
  rw [BitVec.toNat_ofNat, BitVec.toNat_ofNat, Nat.mod_eq_of_lt (by omega), Nat.mod_eq_of_lt (by omega)] at this
  exact this

/-- Over the lanes of eight finite logits the kernel's weights are the softmax of the two greatest. -/
theorem laneWeight_lane {x : Fin 8 → EReal} (hx : ∀ e, ∃ r : ℝ, x e = r) (e : Fin 8) : laneWeight (lane x) e = weight x e := by
  have ht : top (lane x) = x (first x) := max_lane x
  have ha : arg (lane x) = BitVec.ofNat 32 (first x).val := by unfold arg; rw [ht]; exact arg_lane hx
  have hd : drop (lane x) = rest x := by
    funext l
    unfold drop rest
    rw [ha]
    have h : BitVec.ofNat 32 l.val = BitVec.ofNat 32 (first x).val ↔ l = up (first x) :=
      (ofNat_inj l.isLt (by omega)).trans ⟨fun h => Fin.ext h, fun h => congrArg Fin.val h⟩
    simp only [h]
  have hs : top (rest x) = x (second x) := max_rest x
  have hb : arg (rest x) = BitVec.ofNat 32 (second x).val := by unfold arg; rw [hs]; exact arg_rest hx
  have h (a : Fin 8) : BitVec.ofNat 32 a.val = BitVec.ofNat 32 e.val ↔ a = e :=
    (ofNat_inj (by omega) (by omega)).trans ⟨fun h => Fin.ext h, fun h => congrArg Fin.val h⟩
  unfold laneWeight weight laneExp runner
  rw [hd, ht, ha, hs, hb]
  simp only [h]

end Cert.Routing

end
-- ==== Proof.Moe.Row.lean ====
/-
  The layer on one token: the modulated row, the router's logits, one expert's feed-forward, the scaled residual and the
  layer normalization, as plain functions of rows over the extended reals. Both programs are read as these functions; the
  mathematics that makes them equal is here and in Routing.lean.
-/
module

public import Idealize.ShloMosaic.PureOps.Ideal
public import Idealize.ShloMosaic.Lib.IdealHost

@[expose] public section

noncomputable section

namespace Cert.Row

open Idealize.ShloMosaic
open scoped BigOperators

/-- The modulated row `x * (1 + scale) + shift`. -/
def hid (x sc sh : Fin 1024 → EReal) (k : Fin 1024) : EReal := x k * (1 + sc k) + sh k

/-- The router's logits of a modulated row. -/
def logits (h : Fin 1024 → EReal) (R : Fin 1024 → Fin 8 → EReal) (e : Fin 8) : EReal := ∑ k, h k * R k e

/-- One hidden unit of a SwiGLU: `silu gate * up`, its two columns of weights given. -/
def hidden (h : Fin 1024 → EReal) (wg wu : Fin 1024 → EReal) : EReal :=
  (∑ k, h k * wg k) * Ideal.logistic (∑ k, h k * wg k) * ∑ k, h k * wu k

/-- The gate's column of hidden unit `j`. -/
def gateCol (j : Fin 3584) : Fin 7168 := ⟨j, by omega⟩

/-- The up projection's column of hidden unit `j`. -/
def upCol (j : Fin 3584) : Fin 7168 := ⟨3584 + j, by omega⟩

/-- Hidden unit `j` of an expert whose first layer is `w1`. -/
def unit (h : Fin 1024 → EReal) (w1 : Fin 1024 → Fin 7168 → EReal) (j : Fin 3584) : EReal :=
  hidden h (fun k => w1 k (gateCol j)) (fun k => w1 k (upCol j))

/-- The residual's constant. -/
abbrev alpha : EReal := Ideal.ofBits .f32 0x3FD744FD#32
/-- The number of channels. -/
abbrev width : EReal := Ideal.ofBits .f32 0x44800000#32
/-- The normalization's constant. -/
abbrev eps : EReal := Ideal.ofBits .f32 0x3727C5AC#32

/-- The scaled residual of the branch `f`. -/
def resid (x gate f : Fin 1024 → EReal) (n : Fin 1024) : EReal := alpha * x n + (1 + gate n) * f n

/-- The mean over the channels. -/
def mean (z : Fin 1024 → EReal) : EReal := Ideal.div (∑ k, z k) width

/-- The layer normalization with gain `g` and offset `b`. -/
def norm (z g b : Fin 1024 → EReal) (n : Fin 1024) : EReal :=
  (z n - mean z) * Ideal.rsqrt (mean (fun k => (z k - mean z) * (z k - mean z)) + eps) * g n + b n

/-- The call's output row, its branch given: the scaled residual, normalized. -/
def out (x gate g b f : Fin 1024 → EReal) : Fin 1024 → EReal := norm (resid x gate f) g b

/-! ### Infinite rows -/

/-- An extended real that is one of the two infinities. -/
def Inf (a : EReal) : Prop := a = ⊤ ∨ a = ⊥

theorem not_inf {a : EReal} (h : ¬ Inf a) : ∃ r : ℝ, a = r := by
  induction a using EReal.rec with
  | bot => exact absurd (.inr rfl) h
  | coe r => exact ⟨r, rfl⟩
  | top => exact absurd (.inl rfl) h

theorem Inf.add {a : EReal} (h : Inf a) (b : EReal) : Inf (a + b) := by
  rcases h with rfl | rfl
  · induction b using EReal.rec with
    | bot => exact .inr rfl
    | coe r => exact .inl rfl
    | top => exact .inl rfl
  · exact .inr (EReal.bot_add b)

theorem Inf.neg {a : EReal} (h : Inf a) : Inf (-a) := by
  rcases h with rfl | rfl
  · exact .inr rfl
  · exact .inl rfl

theorem Inf.sub {a : EReal} (h : Inf a) (b : EReal) : Inf (b - a) := by
  rw [sub_eq_add_neg, add_comm]; exact h.neg.add b

/-- A sum with an infinite term is infinite. -/
theorem Inf.sum {n : ℕ} {z : Fin n → EReal} {d : Fin n} (h : Inf (z d)) : Inf (∑ k, z k) := by
  rw [← Finset.add_sum_erase Finset.univ z (Finset.mem_univ d)]; exact h.add _

theorem Inf.mul_pos {a : EReal} (h : Inf a) {r : ℝ} (hr : 0 < r) : Inf (a * r) := by
  rcases h with rfl | rfl
  · exact .inl (EReal.top_mul_coe_of_pos hr)
  · exact .inr (EReal.bot_mul_coe_of_pos hr)

theorem Inf.sq {a : EReal} (h : Inf a) : a * a = ⊤ := by
  rcases h with rfl | rfl
  · exact EReal.top_mul_top
  · exact EReal.bot_mul_bot

theorem alpha_pos : ∃ r : ℝ, 0 < r ∧ alpha = r := by
  refine ⟨_, ?_, by simp [alpha, Ideal.ofBits, Ideal.ieee]; rfl⟩
  norm_num

theorem width_pos : ∃ r : ℝ, 0 < r ∧ width = r := by
  refine ⟨_, ?_, by simp [width, Ideal.ofBits, Ideal.ieee]; rfl⟩
  norm_num

theorem eps_ne_bot : eps ≠ ⊥ := by
  simp [eps, Ideal.ofBits, Ideal.ieee, -EReal.coe_mul]

/-- Division by the number of channels is a product with a positive real. -/
theorem div_width : ∃ r : ℝ, 0 < r ∧ ∀ a, Ideal.div a width = a * r := by
  obtain ⟨r, hr, h⟩ := width_pos
  refine ⟨r⁻¹, inv_pos.mpr hr, fun a => ?_⟩
  rw [h, Ideal.div, if_neg (by exact_mod_cast hr.ne'), ← EReal.coe_inv]

/-- A normalized row that holds an infinity is the offset: the mean is infinite, so is every difference from it, the
    variance is `⊤` and its inverse square root `0`. -/
theorem norm_inf {z g b : Fin 1024 → EReal} {d : Fin 1024} (h : Inf (z d)) : norm z g b = b := by
  obtain ⟨r, hr, hdiv⟩ := div_width
  have hm : Inf (mean z) := by unfold mean; rw [hdiv]; exact h.sum.mul_pos hr
  have hv : mean (fun k => (z k - mean z) * (z k - mean z)) = ⊤ := by
    have : (fun k => (z k - mean z) * (z k - mean z)) = fun _ : Fin 1024 => (⊤ : EReal) :=
      funext fun k => (hm.sub (z k)).sq
    rw [this]; unfold mean; rw [hdiv]
    have hs : ∑ _k : Fin 1024, (⊤ : EReal) = ⊤ := by
      rw [← Finset.add_sum_erase Finset.univ (fun _ : Fin 1024 => (⊤ : EReal)) (Finset.mem_univ 0)]
      refine EReal.top_add_of_ne_bot (ne_of_gt ?_)
      exact lt_of_lt_of_le EReal.bot_lt_zero (Finset.sum_nonneg fun _ _ => le_top)
    rw [hs, EReal.top_mul_coe_of_pos hr]
  funext n
  unfold norm
  rw [hv, EReal.top_add_of_ne_bot eps_ne_bot, Ideal.rsqrt_top, mul_zero, zero_mul, zero_add]

/-- The output row at an infinite row of the input is the offset, whatever the branch is. -/
theorem out_inf {x gate g b f : Fin 1024 → EReal} {d : Fin 1024} (h : Inf (x d)) : out x gate g b f = b := by
  refine norm_inf (d := d) ?_
  obtain ⟨r, hr, e⟩ := alpha_pos
  unfold resid
  rw [e, mul_comm]
  exact (h.mul_pos hr).add _

/-! ### Finite rows -/

theorem real_sum {n : ℕ} (f : Fin n → EReal) (h : ∀ k, ∃ r : ℝ, f k = r) : ∃ r : ℝ, ∑ k, f k = r := by
  induction n with
  | zero => exact ⟨0, by simp⟩
  | succ n ih =>
    obtain ⟨a, ha⟩ := h 0
    obtain ⟨b, hb⟩ := ih (fun k => f k.succ) fun k => h k.succ
    exact ⟨a + b, by rw [Fin.sum_univ_succ, ha, hb, EReal.coe_add]⟩

/-- The logits of a finite row are finite. -/
theorem logits_real {x sc sh : Fin 1024 → EReal} {R : Fin 1024 → Fin 8 → EReal} (hx : ∀ k, ∃ r : ℝ, x k = r)
    (hsc : ∀ k, ∃ r : ℝ, sc k = r) (hsh : ∀ k, ∃ r : ℝ, sh k = r) (hR : ∀ k e, ∃ r : ℝ, R k e = r) (e : Fin 8) :
    ∃ r : ℝ, logits (hid x sc sh) R e = r := by
  refine real_sum _ fun k => ?_
  obtain ⟨a, ha⟩ := hx k
  obtain ⟨s, hs⟩ := hsc k
  obtain ⟨t, ht⟩ := hsh k
  obtain ⟨u, hu⟩ := hR k e
  exact ⟨(a * (1 + s) + t) * u, by rw [hid, ha, hs, ht, hu]; norm_cast⟩

/-! ### The sum over the experts and their blocks -/

/-- A nonnegative finite factor goes into a sum. -/
theorem mul_sum_of_nonneg {n : ℕ} {w : EReal} (h0 : 0 ≤ w) (ht : w ≠ ⊤) (f : Fin n → EReal) :
    w * ∑ k, f k = ∑ k, w * f k := by
  induction n with
  | zero => simp
  | succ n ih => rw [Fin.sum_univ_succ, Fin.sum_univ_succ, EReal.left_distrib_of_nonneg_of_ne_top h0 ht, ih]

/-- Hidden unit `j` of block `f`. -/
def blk (f : Fin 7) (j : Fin 512) : Fin 3584 := ⟨512 * f + j, by omega⟩

/-- A sum over 3584 hidden units, by seven blocks of 512. -/
theorem sum_blk (s : Fin 3584 → EReal) : ∑ f : Fin 7, ∑ j : Fin 512, s (blk f j) = ∑ j, s j := by
  rw [← Fintype.sum_prod_type' (f := fun f j => s (blk f j)), ← (finProdFinEquiv (m := 7) (n := 512)).sum_comp]
  refine Finset.sum_congr rfl fun p _ => congrArg s (Fin.ext ?_)
  simp [blk, finProdFinEquiv]; omega

/-- Expert and block of grid step `p` of a token block. -/
def eOf (p : Fin 56) : Fin 8 := ⟨p / 7, by omega⟩
/-- The block of hidden units of grid step `p`. -/
def fOf (p : Fin 56) : Fin 7 := ⟨p % 7, by omega⟩

/-- A sum over the 56 steps is a sum over the experts and their blocks. -/
theorem sum_steps (s : Fin 8 → Fin 7 → EReal) : ∑ p, s (eOf p) (fOf p) = ∑ e, ∑ f, s e f := by
  rw [← Fintype.sum_prod_type' (f := s), ← (finProdFinEquiv (m := 8) (n := 7)).sum_comp]
  refine Finset.sum_congr rfl fun p _ => ?_
  congr 1 <;> refine Fin.ext ?_ <;> simp [eOf, fOf, finProdFinEquiv] <;> omega

/-- The experts' mixture summed block by block, each block's partial product weighted by itself, is the weighted sum of
    the experts' whole products, the weights being nonnegative and finite. -/
theorem mixture_steps {w : Fin 8 → EReal} (h0 : ∀ e, 0 ≤ w e) (ht : ∀ e, w e ≠ ⊤) (s : Fin 8 → Fin 3584 → EReal) :
    ∑ p, w (eOf p) * ∑ j, s (eOf p) (blk (fOf p) j) = ∑ e, w e * ∑ j, s e j := by
  rw [sum_steps fun e f => w e * ∑ j, s e (blk f j)]
  refine Finset.sum_congr rfl fun e _ => ?_
  rw [← mul_sum_of_nonneg (h0 e) (ht e), sum_blk (s e)]

end Cert.Row

end
-- ==== Proof.Moe.Payloads.lean ====
/-
  The kernel body's values at an index: the routing weights its first step computes from a row's 128 lanes, and what one
  step adds to the accumulator.
-/
module

public import proofs.«01_k».proof.Proof.Gen.MoeIdeal.Skeleton
public import proofs.«01_k».proof.Proof.Moe.Routing
public import proofs.«01_k».proof.Proof.Moe.Row
public import Idealize.ShloMosaic.Lib.Pointwise

@[expose] public section

set_option maxRecDepth 16384

noncomputable section

namespace Cert.MoeIdeal.Hand

open Cert.MoeIdeal Cert.MoeIdeal.Gen Idealize.ShloMosaic Idealize.ShloMosaic.Pointwise Cert.Routing

variable [Cert.MoeIdeal.Facts]

theorem ninf : Ideal.ofBits .f32 4286578688#32 = ⊥ := by simp [Ideal.ofBits, Ideal.ieee]

/-- A select on an integer comparison is an `if`. -/
theorem select_eq {α : Type} (a b : BitVec 32) (x y : α) :
    Scalar.select (IntOp.cmpi .eq a b) x y = if a = b then x else y := by
  by_cases h : a = b
  · simp [Scalar.select, IntOp.cmpi, h]
  · have hb : (a == b) = false := by simpa using h
    simp [Scalar.select, IntOp.cmpi, h, hb]

section
variable (v37 : Vec Ideal S1024x1024 .f32) (v38 v44 : Vec Ideal S1x1x1024 .f32) (v53 : Vec Ideal S1024x128 .f32)

/-- The 128 lanes of row `r`. -/
def lanes (r : Fin 1024) (l : Fin 128) : EReal := k0_pay5 v37 v38 v44 v53 (ix2 r l)

theorem pay6_apply (r : Fin 1024) : k0_pay6 v37 v38 v44 v53 (ix2 r 0) = top (lanes v37 v38 v44 v53 r) := by
  pointwise [k0_pay6]
  rw [ninf]; rfl

theorem pay7_apply (r : Fin 1024) : k0_pay7 v37 v38 v44 v53 (ix2 r 0) = arg (lanes v37 v38 v44 v53 r) := by
  pointwise [k0_pay7, k0_pay6]
  rw [ninf]; rfl

theorem pay8_apply (r : Fin 1024) (l : Fin 128) :
    k0_pay8 v37 v38 v44 v53 (ix2 r l) = drop (lanes v37 v38 v44 v53 r) l := by
  pointwise [k0_pay8]
  rw [ninf, pay7_apply, select_eq]; rfl

theorem pay9_apply (r : Fin 1024) : k0_pay9 v37 v38 v44 v53 (ix2 r 0) = top (drop (lanes v37 v38 v44 v53 r)) := by
  pointwise [k0_pay9]
  rw [ninf]; simp only [pay8_apply]; rfl

theorem pay10_apply (r : Fin 1024) (l : Fin 128) :
    k0_pay10 v37 v38 v44 v53 (ix2 r l) = top (drop (lanes v37 v38 v44 v53 r)) := by
  pointwise [k0_pay10]
  exact pay9_apply v37 v38 v44 v53 r

/-- The word that numbers the lanes. -/
abbrev laneIota : IVec S1024x128 32 := iota .tc S1024x128 32 [1] iota_S1024x128_d1_w32

theorem pay11_apply (r : Fin 1024) :
    k0_pay11 laneIota (k0_pay8 v37 v38 v44 v53) (k0_pay10 v37 v38 v44 v53) (ix2 r 0) = arg (drop (lanes v37 v38 v44 v53 r)) := by
  pointwise [k0_pay11]
  simp only [pay8_apply, pay10_apply]; rfl

theorem pay13_apply (r : Fin 1024) : k0_pay13 (k0_pay6 v37 v38 v44 v53) (k0_pay9 v37 v38 v44 v53) (ix2 r 0)
    = Ideal.div 1 (1 + laneExp (lanes v37 v38 v44 v53 r)) := by
  pointwise [k0_pay13, k0_pay12]
  rw [pay6_apply, pay9_apply]; rfl

theorem pay14_apply (r : Fin 1024) : k0_pay14 (k0_pay6 v37 v38 v44 v53) (k0_pay9 v37 v38 v44 v53) (ix2 r 0)
    = Ideal.div (laneExp (lanes v37 v38 v44 v53 r)) (1 + laneExp (lanes v37 v38 v44 v53 r)) := by
  pointwise [k0_pay14, k0_pay12]
  rw [pay6_apply, pay9_apply]; rfl

theorem pay15_apply (r : Fin 1024) : k0_pay15 laneIota (k0_pay6 v37 v38 v44 v53) (k0_pay7 v37 v38 v44 v53) (k0_pay8 v37 v38 v44 v53)
    (k0_pay9 v37 v38 v44 v53) (k0_pay10 v37 v38 v44 v53) (ix3 0 r 0) = laneWeight (lanes v37 v38 v44 v53 r) 0 := by
  pointwise [k0_pay15]
  rw [select_eq, select_eq, pay7_apply, pay11_apply, pay13_apply, pay14_apply]; rfl

theorem pay16_apply (r : Fin 1024) : k0_pay16 laneIota (k0_pay6 v37 v38 v44 v53) (k0_pay7 v37 v38 v44 v53) (k0_pay8 v37 v38 v44 v53)
    (k0_pay9 v37 v38 v44 v53) (k0_pay10 v37 v38 v44 v53) (ix3 0 r 0) = laneWeight (lanes v37 v38 v44 v53 r) 1 := by
  pointwise [k0_pay16]
  rw [select_eq, select_eq, pay7_apply, pay11_apply, pay13_apply, pay14_apply]; rfl

end

/-- The weight of expert `e` from the two experts and the two shares of a row, the way each stored piece computes it. -/
def pick (i1 i2 : BitVec 32) (a b : EReal) (e : ℕ) : EReal :=
  (if i1 = BitVec.ofNat 32 e then a else 0) + (if i2 = BitVec.ofNat 32 e then b else 0)

section
variable (v67 v79 : IVec S1024x1 32) (v85 v88 : FVec Ideal S1024x1 .f32) (r : Fin 1024)

theorem pay17_apply : k0_pay17 v67 v79 v85 v88 2#32 (ix3 0 r 0) = pick (v67 (ix2 r 0)) (v79 (ix2 r 0)) (v85 (ix2 r 0)) (v88 (ix2 r 0)) 2 := by
  pointwise [k0_pay17]
  rw [select_eq, select_eq]; rfl
theorem pay18_apply : k0_pay18 v67 v79 v85 v88 (ix3 0 r 0) = pick (v67 (ix2 r 0)) (v79 (ix2 r 0)) (v85 (ix2 r 0)) (v88 (ix2 r 0)) 3 := by
  pointwise [k0_pay18]
  rw [select_eq, select_eq]; rfl
theorem pay19_apply : k0_pay19 v67 v79 v85 v88 (ix3 0 r 0) = pick (v67 (ix2 r 0)) (v79 (ix2 r 0)) (v85 (ix2 r 0)) (v88 (ix2 r 0)) 4 := by
  pointwise [k0_pay19]
  rw [select_eq, select_eq]; rfl
theorem pay20_apply : k0_pay20 v67 v79 v85 v88 5#32 (ix3 0 r 0) = pick (v67 (ix2 r 0)) (v79 (ix2 r 0)) (v85 (ix2 r 0)) (v88 (ix2 r 0)) 5 := by
  pointwise [k0_pay20]
  rw [select_eq, select_eq]; rfl
theorem pay21_apply : k0_pay21 v67 v79 v85 v88 (ix3 0 r 0) = pick (v67 (ix2 r 0)) (v79 (ix2 r 0)) (v85 (ix2 r 0)) (v88 (ix2 r 0)) 6 := by
  pointwise [k0_pay21]
  rw [select_eq, select_eq]; rfl
theorem pay22_apply : k0_pay22 v67 v79 v85 v88 (ix3 0 r 0) = pick (v67 (ix2 r 0)) (v79 (ix2 r 0)) (v85 (ix2 r 0)) (v88 (ix2 r 0)) 7 := by
  pointwise [k0_pay22]
  rw [select_eq, select_eq]; rfl

end

theorem pay3_apply (v37 : Vec Ideal S1024x1024 .f32) (v38 v44 : Vec Ideal S1x1x1024 .f32) (r k : Fin 1024) :
    k0_pay3 v37 v38 v44 (ix2 r k)
      = Cert.Row.hid (fun k => v37 (ix2 r k)) (fun k => v38 (ix3 0 0 k)) (fun k => v44 (ix3 0 0 k)) k := by
  pointwise [k0_pay3]
  rfl

theorem pay4_apply (v37 : Vec Ideal S1024x1024 .f32) (v38 v44 : Vec Ideal S1x1x1024 .f32) (r k : Fin 1024) :
    k0_pay4 v37 v38 v44 (ix2 r k)
      = Cert.Row.hid (fun k => v37 (ix2 r k)) (fun k => v38 (ix3 0 0 k)) (fun k => v44 (ix3 0 0 k)) k := by
  pointwise [k0_pay4]
  exact pay3_apply v37 v38 v44 r k

/-- The lanes hold the row's eight logits and −∞, where the router's block holds the router's columns in its first lanes. -/
theorem lanes_eq (v37 : Vec Ideal S1024x1024 .f32) (v38 v44 : Vec Ideal S1x1x1024 .f32) (v53 : Vec Ideal S1024x128 .f32)
    (R : Fin 1024 → Fin 8 → EReal) (hR : ∀ k e, v53 (ix2 k (up e)) = R k e) (r : Fin 1024) :
    lanes v37 v38 v44 v53 r = lane (Cert.Row.logits
      (Cert.Row.hid (fun k => v37 (ix2 r k)) (fun k => v38 (ix3 0 0 k)) (fun k => v44 (ix3 0 0 k))) R) := by
  funext l
  unfold lanes lane
  pointwise [k0_pay5]
  have hl : ((BitVec.ofNat 32 l.val).slt 8#32) = decide (l.val < 8) := by
    have := l.isLt
    have h : (BitVec.ofNat 32 l.val).toInt = l.val := by
      rw [BitVec.toInt_eq_toNat_of_lt] <;> rw [BitVec.toNat_ofNat] <;> omega
    have h8 : (8#32 : BitVec 32).toInt = 8 := by decide
    rw [BitVec.slt, h, h8]
    congr 1
    exact propext (by omega)
  by_cases h : l.val < 8
  · rw [dif_pos h, Scalar.select, IntOp.cmpi]
    simp only [hl, h, decide_true, BitVec.ofBool_true, if_true]
    unfold Cert.Row.logits
    refine Finset.sum_congr rfl fun k _ => ?_
    rw [pay3_apply]
    exact congrArg _ (hR k ⟨l.val, h⟩)
  · rw [dif_neg h, Scalar.select, IntOp.cmpi, ninf]
    simp only [hl, h, decide_false]
    rfl

/-- One step of the accumulator: the expert's weight times the block's part of the expert's output is added. -/
theorem pay24_apply (v5 : Vec Ideal S1024x1024 .bf16) (v6 v10 : Vec Ideal S1x1x1024x512 .f32) (v18 : Vec Ideal S1024x1024 .f32)
    (v20 : Vec Ideal S1x1024x1 .f32) (v22 : Vec Ideal S1x1x512x1024 .f32) (r n : Fin 1024) :
    k0_pay24 v5 v6 v10 v18 v20 v22 (ix2 r n) = v18 (ix2 r n) + v20 (ix3 0 r 0) * ∑ j : Fin 512,
      Cert.Row.hidden (fun k => v5 (ix2 r k)) (fun k => v6 (ix4 0 0 k j)) (fun k => v10 (ix4 0 0 k j)) * v22 (ix4 0 0 j n) := by
  pointwise [k0_pay24]
  rfl

theorem pay2_apply (v37 : Vec Ideal S1024x1024 .f32) (v38 : Vec Ideal S1x1x1024 .f32) (v40 : Vec Ideal S1024x1024 .f32)
    (v41 v42 : Vec Ideal S1x1024 .f32) (r n : Fin 1024) :
    k0_pay2 v37 v38 v40 v41 v42 (ix2 r n) = Cert.Row.out (fun k => v37 (ix2 r k)) (fun k => v38 (ix3 0 0 k))
      (fun k => v41 (ix2 0 k)) (fun k => v42 (ix2 0 k)) (fun k => v40 (ix2 r k)) n := by
  pointwise [k0_pay2]
  rfl

end Cert.MoeIdeal.Hand

end
-- ==== Proof.Moe.Steps.lean ====
/-
  What one grid point leaves in the kernel's output block and scratches, at an index. The first step of a token block
  stores the modulated rows, the eight routing weights of every row and the first product; a later step adds its product;
  the last one also writes the normalized rows.
-/
module

public import proofs.«01_k».proof.Proof.Moe.Blocks
public import proofs.«01_k».proof.Proof.Moe.Payloads
public import Idealize.ShloMosaic.Lib.Pipeline.ReadBack

@[expose] public section

set_option maxRecDepth 16384

noncomputable section

namespace Cert.MoeIdeal.Hand

open Cert.MoeIdeal Cert.MoeIdeal.Gen Cert.MoeIdeal.Value Idealize.ShloMosaic Idealize.ShloMosaic.TcCoe Idealize.SL.Sem Cert.Routing

variable (m : (ℓ : Loc nD τ sig) → Buf (Elt Ideal) ℓ)

/-! ### The stored weights -/

/-- Eight rows of weights as one array. -/
def stacked (W : Fin 8 → Fin 1024 → EReal) : Vec Ideal S8x1024x1 .f32 := fun y => W (y 0) (y 1)

/-- A stored row agrees with the array it is a row of. -/
theorem piece (W : Fin 8 → Fin 1024 → EReal) (e : ℕ) (he : e < 8) (inb : ∀ a, (![e, 0, 0] : Fin 3 → Nat) a + S1x1024x1.size a ≤ S8x1024x1.size a)
    (f : FVec Ideal S1x1024x1 .f32) (h : ∀ r, f (ix3 0 r 0) = W ⟨e, he⟩ r) (x : S1x1024x1.Idx) :
    f x = stacked W ((Rect.unit (s := S8x1024x1) ![e, 0, 0] S1x1024x1.size inb).emb x) := by
  have hx : x = ix3 0 (x 1) 0 := by
    funext a
    fin_cases a
    · exact Fin.ext (by have := (x 0).isLt; show (x 0).val = 0; exact Nat.lt_one_iff.mp this)
    · rfl
    · exact Fin.ext (by have := (x 2).isLt; show (x 2).val = 0; exact Nat.lt_one_iff.mp this)
  have h0 : (x 0).val = 0 := Nat.lt_one_iff.mp (x 0).isLt
  have he' : (Rect.unit (s := S8x1024x1) ![e, 0, 0] S1x1024x1.size inb).emb x 0 = ⟨e, he⟩ :=
    Fin.ext (show e + 1 * (x 0).val = e by omega)
  have hr : (Rect.unit (s := S8x1024x1) ![e, 0, 0] S1x1024x1.size inb).emb x 1 = x 1 :=
    Fin.ext (show 0 + 1 * (x 1).val = (x 1).val by omega)
  have hf : f x = W ⟨e, he⟩ (x 1) := by rw [hx]; exact h (x 1)
  rw [hf, stacked, he', hr]
  rfl

/-- Row `e` holds the indices that begin with `e`. -/
theorem mem_piece (e : Fin 8) (r : Fin 1024) (inb : ∀ a, (![e.val, 0, 0] : Fin 3 → Nat) a + S1x1024x1.size a ≤ S8x1024x1.size a) :
    (ix3 e r 0 : S8x1024x1.Idx) ∈ (Rect.unit (s := S8x1024x1) ![e.val, 0, 0] S1x1024x1.size inb).set := by
  rw [Rect.mem_set_unit]
  intro a
  fin_cases a
  · exact ⟨le_rfl, Nat.lt_succ_self _⟩
  · exact ⟨Nat.zero_le _, r.isLt.trans_eq (Nat.zero_add _).symm⟩
  · exact ⟨le_rfl, Nat.zero_lt_one⟩

section
variable (x0 : Vec Ideal S1024x1024 .f32) (x1 x2 : Vec Ideal S1x1x1024 .f32) (x6 : Vec Ideal S1024x128 .f32)

/-- The weights' scratch after the first step: its eight rows, each stored by itself. -/
def weights : Vec Ideal S8x1024x1 .f32 :=
  View.canon (Val := Elt Ideal)
      [⟨Rect.unit ![7, 0, 0] S1x1024x1.size inb_S8x1024x1_S1x1024x1_7_0_0,
          k0_pay22 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6))⟩,
        ⟨Rect.unit ![6, 0, 0] S1x1024x1.size inb_S8x1024x1_S1x1024x1_6_0_0,
          k0_pay21 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6))⟩,
        ⟨Rect.unit ![5, 0, 0] S1x1024x1.size inb_S8x1024x1_S1x1024x1_5_0_0,
          k0_pay20 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6)) 5#32⟩,
        ⟨Rect.unit ![4, 0, 0] S1x1024x1.size inb_S8x1024x1_S1x1024x1_4_0_0,
          k0_pay19 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6))⟩,
        ⟨Rect.unit ![3, 0, 0] S1x1024x1.size inb_S8x1024x1_S1x1024x1_3_0_0,
          k0_pay18 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6))⟩,
        ⟨Rect.unit ![2, 0, 0] S1x1024x1.size inb_S8x1024x1_S1x1024x1_2_0_0,
          k0_pay17 (k0_pay7 x0 x1 x2 x6) (k0_pay11 laneIota (k0_pay8 x0 x1 x2 x6) (k0_pay10 x0 x1 x2 x6)) (k0_pay13 (k0_pay6 x0 x1 x2 x6) (k0_pay9 x0 x1 x2 x6))
            (k0_pay14 (k0_pay6 x0 x1 x2 x6) (k0_pay9 x0 x1 x2 x6)) 2#32⟩,
        ⟨Rect.unit ![1, 0, 0] S1x1024x1.size inb_S8x1024x1_S1x1024x1_1_0_0,
          k0_pay16 laneIota (k0_pay6 x0 x1 x2 x6) (k0_pay7 x0 x1 x2 x6) (k0_pay8 x0 x1 x2 x6) (k0_pay9 x0 x1 x2 x6) (k0_pay10 x0 x1 x2 x6)⟩,
        ⟨Rect.unit ![0, 0, 0] S1x1024x1.size inb_S8x1024x1_S1x1024x1_0_0_0,
          k0_pay15 laneIota (k0_pay6 x0 x1 x2 x6) (k0_pay7 x0 x1 x2 x6) (k0_pay8 x0 x1 x2 x6) (k0_pay9 x0 x1 x2 x6) (k0_pay10 x0 x1 x2 x6)⟩]

/-- They are the kernel's routing weights of every row. -/
theorem weights_apply (e : Fin 8) (r : Fin 1024) : weights x0 x1 x2 x6 (ix3 e r 0) = laneWeight (lanes x0 x1 x2 x6 r) e := by
  have h := View.canon_apply_of_pieces (Val := Elt Ideal) (stacked fun e r => laneWeight (lanes x0 x1 x2 x6 r) e)
  unfold weights
  rw [h]
  · rfl
  · simp only [List.forall_mem_cons]
    refine ⟨piece _ 7 (by decide) inb_S8x1024x1_S1x1024x1_7_0_0 _ fun r => ?_, piece _ 6 (by decide) inb_S8x1024x1_S1x1024x1_6_0_0 _ fun r => ?_, piece _ 5 (by decide) inb_S8x1024x1_S1x1024x1_5_0_0 _ fun r => ?_,
      piece _ 4 (by decide) inb_S8x1024x1_S1x1024x1_4_0_0 _ fun r => ?_, piece _ 3 (by decide) inb_S8x1024x1_S1x1024x1_3_0_0 _ fun r => ?_, piece _ 2 (by decide) inb_S8x1024x1_S1x1024x1_2_0_0 _ fun r => ?_,
      piece _ 1 (by decide) inb_S8x1024x1_S1x1024x1_1_0_0 _ fun r => ?_, piece _ 0 (by decide) inb_S8x1024x1_S1x1024x1_0_0_0 _ fun r => ?_, fun p hp => absurd hp List.not_mem_nil⟩
    · rw [pay22_apply, pay7_apply, pay11_apply, pay13_apply, pay14_apply]; rfl
    · rw [pay21_apply, pay7_apply, pay11_apply, pay13_apply, pay14_apply]; rfl
    · rw [pay20_apply, pay7_apply, pay11_apply, pay13_apply, pay14_apply]; rfl
    · rw [pay19_apply, pay7_apply, pay11_apply, pay13_apply, pay14_apply]; rfl
    · rw [pay18_apply, pay7_apply, pay11_apply, pay13_apply, pay14_apply]; rfl
    · rw [pay17_apply, pay7_apply, pay11_apply, pay13_apply, pay14_apply]; rfl
    · exact pay16_apply x0 x1 x2 x6 r
    · exact pay15_apply x0 x1 x2 x6 r
  · simp only [List.exists_mem_cons_iff]
    fin_cases e
    · exact .inr (.inr (.inr (.inr (.inr (.inr (.inr (.inl (mem_piece 0 r inb_S8x1024x1_S1x1024x1_0_0_0))))))))
    · exact .inr (.inr (.inr (.inr (.inr (.inr (.inl (mem_piece 1 r inb_S8x1024x1_S1x1024x1_1_0_0)))))))
    · exact .inr (.inr (.inr (.inr (.inr (.inl (mem_piece 2 r inb_S8x1024x1_S1x1024x1_2_0_0))))))
    · exact .inr (.inr (.inr (.inr (.inl (mem_piece 3 r inb_S8x1024x1_S1x1024x1_3_0_0)))))
    · exact .inr (.inr (.inr (.inl (mem_piece 4 r inb_S8x1024x1_S1x1024x1_4_0_0))))
    · exact .inr (.inr (.inl (mem_piece 5 r inb_S8x1024x1_S1x1024x1_5_0_0)))
    · exact .inr (.inl (mem_piece 6 r inb_S8x1024x1_S1x1024x1_6_0_0))
    · exact .inl (mem_piece 7 r inb_S8x1024x1_S1x1024x1_7_0_0)

end

/-- The weights of the point's expert, as a step loads them. -/
theorem load_weight (X : Vec Ideal S8x1024x1 .f32) (t : Fin cfg0.N) (inb) (r : Fin 1024) :
    View.ld (Val := Elt Ideal) X (Rect.unit (k0_off1 (grid0.coords t)) ![1, 1024, 1] inb) (ix3 0 r 0) = X (ix3 (exq t) r 0) := by
  refine View.ld_unit_apply_of (Val := Elt Ideal) X _ _ _ _ _ fun a => ?_
  fin_cases a
  · have h := coord1 t
    show (exq t).val = (BitVec.ofNat 32 (grid0.coords t 1).val).toNat + 0
    rw [h, BitVec.toNat_ofNat]
    show t.val % 56 / 7 = _
    omega
  · exact (Nat.zero_add _).symm
  · rfl

/-! ### The three kinds of point -/

theorem rows_A (c : Dev nD) (t : Fin cfg0.N) (acc) (h0 : t.val % 56 = 0) (h1 : ¬t.val % 56 = 55) :
    (stAt0 m c t.val t.isLt acc).2.1 = k0_pay4 (iblk m c 0 t) (iblk m c 1 t) (iblk m c 2 t) := by
  rw [stAt0_A m c t acc h0 h1]
  dsimp only
  frame_out

theorem weights_A (c : Dev nD) (t : Fin cfg0.N) (acc) (h0 : t.val % 56 = 0) (h1 : ¬t.val % 56 = 55) :
    (stAt0 m c t.val t.isLt acc).2.2.2 = weights (iblk m c 0 t) (iblk m c 1 t) (iblk m c 2 t) (iblk m c 6 t) := by
  rw [stAt0_A m c t acc h0 h1]
  dsimp only
  frame_out

theorem sum_A (c : Dev nD) (t : Fin cfg0.N) (acc) (h0 : t.val % 56 = 0) (h1 : ¬t.val % 56 = 55) (r n : Fin 1024) :
    (stAt0 m c t.val t.isLt acc).2.2.1 (ix2 r n) = 0 + (stAt0 m c t.val t.isLt acc).2.2.2 (ix3 (exq t) r 0) * ∑ j : Fin 512,
      Cert.Row.hidden (fun k => (stAt0 m c t.val t.isLt acc).2.1 (ix2 r k)) (fun k => iblk m c 7 t (ix4 0 0 k j))
        (fun k => iblk m c 8 t (ix4 0 0 k j)) * iblk m c 9 t (ix4 0 0 j n) := by
  rw [rows_A m c t acc h0 h1, weights_A m c t acc h0 h1]
  have h : (stAt0 m c t.val t.isLt acc).2.2.1 = k0_pay24 (k0_pay4 (iblk m c 0 t) (iblk m c 1 t) (iblk m c 2 t)) (iblk m c 7 t)
      (iblk m c 8 t) (k0_pay23 (FloatOps.ofBits (F := Ideal) FTy.f32 0#32))
      (View.ld (Val := Elt Ideal) (weights (iblk m c 0 t) (iblk m c 1 t) (iblk m c 2 t) (iblk m c 6 t))
        (Rect.unit (k0_off1 (grid0.coords t)) ![1, 1024, 1] (k0_off1_inb _))) (iblk m c 9 t) := by
    rw [stAt0_A m c t acc h0 h1]
    dsimp only
    frame_out
    exact shapeCast_self _ _
  rw [h, pay24_apply, load_weight]
  congr 1
  pointwise [k0_pay23]

theorem rows_B (c : Dev nD) (t : Fin cfg0.N) (acc) (h0 : ¬t.val % 56 = 0) (h1 : ¬t.val % 56 = 55) :
    (stAt0 m c t.val t.isLt acc).2.1 = acc.2.1 := by
  rw [stAt0_B m c t acc h0 h1]; rfl

theorem weights_B (c : Dev nD) (t : Fin cfg0.N) (acc) (h0 : ¬t.val % 56 = 0) (h1 : ¬t.val % 56 = 55) :
    (stAt0 m c t.val t.isLt acc).2.2.2 = acc.2.2.2 := by
  rw [stAt0_B m c t acc h0 h1]; rfl

/-- The accumulator's rows after a step that finds `acc`. -/
def added (c : Dev nD) (t : Fin cfg0.N)
    (acc : Vec Ideal S1024x1024 .f32 × Vec Ideal S1024x1024 .bf16 × Vec Ideal S1024x1024 .f32 × Vec Ideal S8x1024x1 .f32)
    (r n : Fin 1024) : EReal :=
  acc.2.2.1 (ix2 r n) + acc.2.2.2 (ix3 (exq t) r 0) * ∑ j : Fin 512,
    Cert.Row.hidden (fun k => acc.2.1 (ix2 r k)) (fun k => iblk m c 7 t (ix4 0 0 k j)) (fun k => iblk m c 8 t (ix4 0 0 k j))
      * iblk m c 9 t (ix4 0 0 j n)

theorem sum_B (c : Dev nD) (t : Fin cfg0.N) (acc) (h0 : ¬t.val % 56 = 0) (h1 : ¬t.val % 56 = 55) (r n : Fin 1024) :
    (stAt0 m c t.val t.isLt acc).2.2.1 (ix2 r n) = added m c t acc r n := by
  have h : (stAt0 m c t.val t.isLt acc).2.2.1 = k0_pay24 acc.2.1 (iblk m c 7 t) (iblk m c 8 t) acc.2.2.1
      (View.ld (Val := Elt Ideal) acc.2.2.2 (Rect.unit (k0_off1 (grid0.coords t)) ![1, 1024, 1] (k0_off1_inb _))) (iblk m c 9 t) := by
    rw [stAt0_B m c t acc h0 h1]
    dsimp only
    frame_out
    rw [read_unread_whole, read_unread_whole, read_unread_whole]
    exact shapeCast_self _ _
  rw [h, pay24_apply, load_weight]
  rfl

theorem out_C (c : Dev nD) (t : Fin cfg0.N) (acc) (h0 : ¬t.val % 56 = 0) (h1 : t.val % 56 = 55) (r n : Fin 1024) :
    (stAt0 m c t.val t.isLt acc).1 (ix2 r n) = Cert.Row.out (fun k => iblk m c 0 t (ix2 r k)) (fun k => iblk m c 3 t (ix3 0 0 k))
      (fun k => iblk m c 4 t (ix2 0 k)) (fun k => iblk m c 5 t (ix2 0 k)) (added m c t acc r) n := by
  have h : (stAt0 m c t.val t.isLt acc).1 = k0_pay2 (iblk m c 0 t) (iblk m c 3 t)
      (k0_pay24 acc.2.1 (iblk m c 7 t) (iblk m c 8 t) acc.2.2.1
        (View.ld (Val := Elt Ideal) acc.2.2.2 (Rect.unit (k0_off1 (grid0.coords t)) ![1, 1024, 1] (k0_off1_inb _))) (iblk m c 9 t))
      (iblk m c 4 t) (iblk m c 5 t) := by
    rw [stAt0_C m c t acc h0 h1]
    dsimp only
    frame_out
    rw [read_unread_whole, read_unread_whole, read_unread_whole]
    exact congrArg (fun z => k0_pay2 _ _ z _ _) (shapeCast_self _ _)
  rw [h, pay2_apply]
  congr 1
  funext k
  rw [pay24_apply, load_weight]
  rfl

end Cert.MoeIdeal.Hand

end
-- ==== Proof.Moe.Fold.lean ====
/-
  The kernel's output at an index. The 56 points of a token block leave the block's modulated rows and routing weights as
  the first point stored them, and add one expert block's weighted product each; the last point normalizes the sum.
-/
module

public import proofs.«01_k».proof.Proof.Moe.Steps

@[expose] public section

set_option maxRecDepth 16384

noncomputable section

namespace Cert.MoeIdeal.Hand

open Cert.MoeIdeal Cert.MoeIdeal.Gen Cert.MoeIdeal.Value Idealize.ShloMosaic Idealize.ShloMosaic.TcCoe Idealize.SL.Sem Cert.Routing
open scoped BigOperators

variable (m : (ℓ : Loc nD τ sig) → Buf (Elt Ideal) ℓ) (c : Dev nD)

/-- The batch of token `T`. -/
def batch (T : Fin 32768) : Fin 16 := ⟨T / 2048, by omega⟩

theorem bat_eq (t : Fin cfg0.N) (r : Fin 1024) : bat t = batch (tok t r) :=
  Fin.ext (show t.val / 112 = (1024 * (t.val / 56) + r.val) / 2048 by omega)

/-- The modulated row of token `T`. -/
def modRow (T : Fin 32768) : Fin 1024 → EReal :=
  Cert.Row.hid (fun k => m ((c : Thread nD τ).loc main_arg0) (ix2 T k)) (fun k => m ((c : Thread nD τ).loc main_arg1) (ix3 (batch T) 0 k))
    (fun k => m ((c : Thread nD τ).loc main_arg2) (ix3 (batch T) 0 k))

/-- The router's logits of token `T`. -/
def modLogits (T : Fin 32768) : Fin 8 → EReal :=
  Cert.Row.logits (modRow m c T) fun k e => m ((c : Thread nD τ).loc main_arg6) (ix2 k e)

/-- Expert `e`'s addend of hidden unit `j` at token `T`, channel `n`. -/
def addend (T : Fin 32768) (n : Fin 1024) (e : Fin 8) (j : Fin 3584) : EReal :=
  Cert.Row.unit (modRow m c T) (fun k p => m ((c : Thread nD τ).loc main_arg7) (ix4 0 e k p)) j
    * m ((c : Thread nD τ).loc main_arg8) (ix4 0 e j n)

/-- What grid step `p` of token `T`'s block adds at channel `n`. -/
def part (T : Fin 32768) (n : Fin 1024) (p : Fin 56) : EReal :=
  laneWeight (lane (modLogits m c T)) (Cert.Row.eOf p) * ∑ j, addend m c T n (Cert.Row.eOf p) (Cert.Row.blk (Cert.Row.fOf p) j)

/-- The step of a point within its token block. -/
def stepOf (t : Fin cfg0.N) : Fin 56 := ⟨t.val % 56, by omega⟩

/-- A point's product, over the rows and weights its scratches hold, is its step's. -/
theorem term_eq (t : Fin cfg0.N) (r n : Fin 1024) :
    laneWeight (lane (modLogits m c (tok t r))) (exq t) * ∑ j : Fin 512,
      Cert.Row.hidden (modRow m c (tok t r)) (fun k => iblk m c 7 t (ix4 0 0 k j)) (fun k => iblk m c 8 t (ix4 0 0 k j))
        * iblk m c 9 t (ix4 0 0 j n) = part m c (tok t r) n (stepOf t) := by
  have he : exq t = Cert.Row.eOf (stepOf t) := rfl
  have hb (j : Fin 512) : hrow t j = Cert.Row.blk (Cert.Row.fOf (stepOf t)) j :=
    Fin.ext (show 512 * (t.val % 7) + j.val = 512 * (t.val % 56 % 7) + j.val by omega)
  have hg (j : Fin 512) : gcol t j = Cert.Row.gateCol (hrow t j) := rfl
  have hu (j : Fin 512) : ucol t j = Cert.Row.upCol (hrow t j) := rfl
  unfold part addend Cert.Row.unit
  simp only [iblk7, iblk8, iblk9, hg, hu, hb, he]

/-- What the scratches hold after point `t`: its block's modulated rows and weights, and the sum of the steps so far. -/
def Holds (t : Fin cfg0.N)
    (s : Vec Ideal S1024x1024 .f32 × Vec Ideal S1024x1024 .bf16 × Vec Ideal S1024x1024 .f32 × Vec Ideal S8x1024x1 .f32) : Prop :=
  ∀ r : Fin 1024, (∀ k, s.2.1 (ix2 r k) = modRow m c (tok t r) k)
    ∧ (∀ e, s.2.2.2 (ix3 e r 0) = laneWeight (lane (modLogits m c (tok t r))) e)
    ∧ ∀ n, s.2.2.1 (ix2 r n) = ∑ p ∈ Finset.univ.filter (· ≤ stepOf t), part m c (tok t r) n p

theorem holds_first (t : Fin cfg0.N) (acc) (h0 : t.val % 56 = 0) : Holds m c t (stAt0 m c t.val t.isLt acc) := by
  have h1 : ¬t.val % 56 = 55 := by omega
  have hrow (r k : Fin 1024) : (stAt0 m c t.val t.isLt acc).2.1 (ix2 r k) = modRow m c (tok t r) k := by
    rw [rows_A m c t acc h0 h1, pay4_apply]
    simp only [iblk0, iblk1, iblk2, bat_eq t r]
    rfl
  have hw (r : Fin 1024) (e : Fin 8) : (stAt0 m c t.val t.isLt acc).2.2.2 (ix3 e r 0) = laneWeight (lane (modLogits m c (tok t r))) e := by
    rw [weights_A m c t acc h0 h1, weights_apply,
      lanes_eq _ _ _ _ (fun k e => m ((c : Thread nD τ).loc main_arg6) (ix2 k e)) fun k e => by
        rw [iblk6]; exact dif_pos e.isLt]
    simp only [iblk0, iblk1, iblk2, bat_eq t r]
    rfl
  refine fun r => ⟨hrow r, hw r, fun n => ?_⟩
  have hs : Finset.univ.filter (· ≤ stepOf t) = {stepOf t} := by
    ext p
    simp only [Finset.mem_filter, Finset.mem_univ, true_and, Finset.mem_singleton]
    refine ⟨fun h => Fin.ext ?_, fun h => h.le⟩
    have h' : p.val ≤ t.val % 56 := h
    show p.val = t.val % 56
    omega
  rw [sum_A m c t acc h0 h1, hw, hs, Finset.sum_singleton, zero_add]
  simp only [hrow]
  exact term_eq m c t r n

/-- The steps up to a point that is not the first: those up to the point before, and its own. -/
theorem steps_succ (f : Fin 56 → EReal) (t t' : Fin cfg0.N) (ht : t.val = t'.val + 1) (h0 : ¬t.val % 56 = 0) :
    (∑ p ∈ Finset.univ.filter (· ≤ stepOf t'), f p) + f (stepOf t) = ∑ p ∈ Finset.univ.filter (· ≤ stepOf t), f p := by
  have hs : Finset.univ.filter (· ≤ stepOf t) = insert (stepOf t) (Finset.univ.filter (· ≤ stepOf t')) := by
    ext p
    simp only [Finset.mem_filter, Finset.mem_univ, true_and, Finset.mem_insert, Fin.le_def, Fin.ext_iff, stepOf]
    omega
  rw [hs, Finset.sum_insert, add_comm]
  simp only [Finset.mem_filter, Finset.mem_univ, true_and, Fin.le_def, stepOf]
  omega

/-- The accumulator of a later point, over what the point before left. -/
theorem added_eq (t t' : Fin cfg0.N) (ht : t.val = t'.val + 1) (h0 : ¬t.val % 56 = 0) (acc) (h : Holds m c t' acc) (r n : Fin 1024) :
    added m c t acc r n = ∑ p ∈ Finset.univ.filter (· ≤ stepOf t), part m c (tok t r) n p := by
  have hT : tok t' r = tok t r := Fin.ext (show 1024 * (t'.val / 56) + r.val = 1024 * (t.val / 56) + r.val by omega)
  obtain ⟨hr, hw, hs⟩ := h r
  rw [hT] at hr hw
  have hs := hs n
  rw [hT] at hs
  unfold added
  simp only [hr, hw]
  rw [hs, term_eq]
  exact steps_succ _ t t' ht h0

theorem holds_next (t t' : Fin cfg0.N) (ht : t.val = t'.val + 1) (h0 : ¬t.val % 56 = 0) (h1 : ¬t.val % 56 = 55) (acc)
    (h : Holds m c t' acc) : Holds m c t (stAt0 m c t.val t.isLt acc) := by
  intro r
  have hT : tok t' r = tok t r := Fin.ext (show 1024 * (t'.val / 56) + r.val = 1024 * (t.val / 56) + r.val by omega)
  rw [rows_B m c t acc h0 h1, weights_B m c t acc h0 h1, ← hT]
  refine ⟨(h r).1, (h r).2.1, fun n => ?_⟩
  rw [sum_B m c t acc h0 h1, added_eq m c t t' ht h0 acc h, hT]

/-- Every point but a token block's last leaves its scratches so. -/
theorem holds (n : ℕ) (hn : n < cfg0.N) (h1 : ¬n % 56 = 55) : Holds m c ⟨n, hn⟩ (outsAt0 m c n hn) := by
  induction n with
  | zero => rw [outsAt0_zero]; exact holds_first m c ⟨0, hn⟩ _ (Nat.zero_mod _)
  | succ n ih =>
    rw [show outsAt0 m c (n + 1) hn = stAt0 m c (n + 1) hn (outsAt0 m c n (Nat.lt_of_succ_lt hn)) from rfl]
    by_cases h0 : (n + 1) % 56 = 0
    · exact holds_first m c ⟨n + 1, hn⟩ _ h0
    · exact holds_next m c ⟨n + 1, hn⟩ ⟨n, Nat.lt_of_succ_lt hn⟩ rfl h0 h1 _ (ih _ (by omega))

/-- The rows a token block's last point writes. -/
theorem last (t : Fin cfg0.N) (h1 : t.val % 56 = 55) (r n : Fin 1024) :
    (outsAt0 m c t.val t.isLt).1 (ix2 r n)
      = Cert.Row.out (fun k => m ((c : Thread nD τ).loc main_arg0) (ix2 (tok t r) k))
          (fun k => m ((c : Thread nD τ).loc main_arg3) (ix3 (batch (tok t r)) 0 k)) (fun k => m ((c : Thread nD τ).loc main_arg4) (ix2 0 k))
          (fun k => m ((c : Thread nD τ).loc main_arg5) (ix2 0 k)) (fun n => ∑ p, part m c (tok t r) n p) n := by
  obtain ⟨n', hn'⟩ : ∃ n', t.val = n' + 1 := ⟨t.val - 1, by omega⟩
  have hlt : n' < cfg0.N := by have := t.isLt; omega
  have h0 : ¬t.val % 56 = 0 := by omega
  have ho : outsAt0 m c t.val t.isLt = stAt0 m c t.val t.isLt (outsAt0 m c n' hlt) := by
    obtain ⟨v, hv⟩ := t
    dsimp only at hn'
    subst hn'
    rfl
  have ha : added m c t (outsAt0 m c n' hlt) r = fun n => ∑ p, part m c (tok t r) n p := by
    funext n
    rw [added_eq m c t ⟨n', hlt⟩ hn' h0 _ (holds m c n' hlt (by omega))]
    refine Finset.sum_congr (Finset.filter_true_of_mem fun p _ => ?_) fun _ _ => rfl
    show p.val ≤ t.val % 56
    omega
  rw [ho, out_C m c t _ h0 h1, ha]
  simp only [iblk0, iblk3, iblk4, iblk5, bat_eq t r]

/-- The kernel's result at token `T`, channel `n`. -/
theorem result (T : Fin 32768) (n : Fin 1024) :
    G10 m c (ix2 T n)
      = Cert.Row.out (fun k => m ((c : Thread nD τ).loc main_arg0) (ix2 T k))
          (fun k => m ((c : Thread nD τ).loc main_arg3) (ix3 (batch T) 0 k)) (fun k => m ((c : Thread nD τ).loc main_arg4) (ix2 0 k))
          (fun k => m ((c : Thread nD τ).loc main_arg5) (ix2 0 k)) (fun n => ∑ p, part m c T n p) n := by
  have hp : pt10Of (ix2 T n) = 56 * (T.val / 1024) + 55 := by
    show 56 * (1 * (T.val / 1024 - 0) + 1 * (n.val / 1024 - 0)) + 55 = _
    omega
  have hN : 56 * (T.val / 1024) + 55 < cfg0.N := by show _ < 1792; omega
  have hl : loc10Of (ix2 T n) = (ix2 (⟨T.val % 1024, by omega⟩ : Fin 1024) n : S1024x1024.Idx) := by
    funext a
    fin_cases a
    · rfl
    · exact Fin.ext (Nat.mod_eq_of_lt n.isLt)
  have ht : tok ⟨56 * (T.val / 1024) + 55, hN⟩ ⟨T.val % 1024, by omega⟩ = T :=
    Fin.ext (show 1024 * ((56 * (T.val / 1024) + 55) / 56) + T.val % 1024 = T.val by omega)
  unfold G10
  rw [dif_pos (by rw [hp]; exact hN), hl, fold0_congr m c _ _ _ (by omega) hp, ← outsAt0_sweep m c _ hN]
  rw [last m c ⟨56 * (T.val / 1024) + 55, hN⟩ (show (56 * (T.val / 1024) + 55) % 56 = 55 by omega), ht]

end Cert.MoeIdeal.Hand

end
-- ==== Proof.Moe.RefValue.lean ====
/-
  The reference read at a token: its modulated row, its logits, the two experts the stable descending sort picks, their
  softmax, every expert's feed-forward, the weighted sum, the residual and the layer normalization.
-/
module

public import proofs.«01_k».proof.Proof.Gen.MoeRefIdeal.Read
public import proofs.«01_k».proof.Proof.Moe.Routing
public import proofs.«01_k».proof.Proof.Moe.Row
public import Idealize.ShloMosaic.Lib.Pointwise

@[expose] public section

set_option maxRecDepth 16384

noncomputable section

namespace Cert.MoeRefIdeal.Hand

open Cert.MoeRefIdeal Cert.MoeRefIdeal.Read Idealize.ShloMosaic Idealize.ShloMosaic.Pointwise Idealize.SL.Sem Cert.TopTwo Cert.Routing

/-- The batch of token `T`. -/
def bt (T : Fin 32768) : Fin 16 := ⟨T / 2048, by omega⟩

/-- Token `s` of batch `b`. -/
def tk (b : Fin 16) (s : Fin 2048) : Fin 32768 := ⟨b * 2048 + s, by omega⟩

/-- A row of the sorted array read at one of its two kept places, from the place the sort reads. -/
theorem topK_apply (x : FVec Ideal S32768x8 .f32) (T : Fin 32768) (j : Fin 2) (g : Fin 8)
    (h : S32768x8.Slices (fun _ => 0) S32768x2) (hg : sortedFrom (gtBefore fun e => x (ix2 T e)) (Fin.castLE (by decide) j) = g) :
    (Host.topK S32768x2 1 (FloatOps.cmpfTotal (F := Ideal) .gt) x h).1 (ix2 T j) = x (ix2 T g)
    ∧ (Host.topK S32768x2 1 (FloatOps.cmpfTotal (F := Ideal) .gt) x h).2 (ix2 T j) = BitVec.ofNat 32 g.val := by
  have hal (k : Fin 8) : (ix2 T (Fin.castLE (by decide) j) : S32768x8.Idx).along (1 : Fin 2) k = ix2 T k := by
    funext a
    fin_cases a
    · rfl
    · rfl
  have hc (a b : EReal) : ((FloatOps.cmpfTotal (F := Ideal) (φ := .f32) .gt a b) == 1#1) = decide (b < a) := by
    rw [Ideal.cmpfTotal_def]
    show (BitVec.ofBool (decide (b < a)) == 1#1) = _
    by_cases hab : b < a <;> simp [hab]
  have hi : ∀ (X : S32768x8.Idx → EReal), extractStridedSlice S32768x2 (fun _ => 0) X h (ix2 T j) = X (ix2 T (Fin.castLE (by decide) j)) :=
    fun X => extractStridedSlice_apply _ X h _ _ fun a => by fin_cases a <;> exact (Nat.zero_add _).symm
  have hi' : ∀ (X : S32768x8.Idx → BitVec 32), extractStridedSlice S32768x2 (fun _ => 0) X h (ix2 T j) = X (ix2 T (Fin.castLE (by decide) j)) :=
    fun X => extractStridedSlice_apply _ X h _ _ fun a => by fin_cases a <;> exact (Nat.zero_add _).symm
  have hp : (1 : ℕ) < S32768x8.rank := by decide
  have hs : sortedFrom (fun k k' : Fin 8 => (FloatOps.cmpfTotal (F := Ideal) (φ := .f32) .gt
      (x ((ix2 T (Fin.castLE (by decide) j) : S32768x8.Idx).along (1 : Fin 2) k))
      (x ((ix2 T (Fin.castLE (by decide) j) : S32768x8.Idx).along (1 : Fin 2) k'))) == 1#1) (Fin.castLE (by decide) j) = g := by
    rw [← hg]
    congr 1
    funext k k'
    rw [hal, hal, hc]
    rfl
  unfold Host.topK Host.sort2
  simp only [dif_pos hp, hi, hi']
  constructor
  · refine Eq.trans ?_ (congrArg x (hal g))
    exact congrArg (fun q => x ((ix2 T (Fin.castLE (by decide) j) : S32768x8.Idx).along (1 : Fin 2) q)) hs
  · exact congrArg (fun q : Fin 8 => BitVec.ofNat 32 q.val) hs

variable (x0 : FVec Ideal S32768x1024 .f32) (x1 x2 x3 : FVec Ideal S16x1x1024 .f32) (x4 x5 : FVec Ideal S1x1024 .f32)
  (x6 : FVec Ideal S1024x8 .f32) (x7 : FVec Ideal S2x8x1024x7168 .f32) (x8 : FVec Ideal S2x8x3584x1024 .f32)

/-- The modulated row of token `T`. -/
def rowH (T : Fin 32768) : Fin 1024 → EReal :=
  Cert.Row.hid (fun k => x0 (ix2 T k)) (fun k => x1 (ix3 (bt T) 0 k)) (fun k => x2 (ix3 (bt T) 0 k))

/-- The logits of token `T`. -/
def lg (T : Fin 32768) : Fin 8 → EReal := Cert.Row.logits (rowH x0 x1 x2 T) (fun k e => x6 (ix2 k e))

/-- Expert `e`'s output at token `T`, channel `n`. -/
def expert (T : Fin 32768) (n : Fin 1024) (e : Fin 8) : EReal :=
  ∑ j, Cert.Row.unit (rowH x0 x1 x2 T) (fun k p => x7 (ix4 0 e k p)) j * x8 (ix4 0 e j n)

theorem v7_apply (T : Fin 32768) (k : Fin 1024) : val_main_v7 (F := Ideal) x0 x1 x2 (ix2 T k) = rowH x0 x1 x2 T k := by
  pointwise [val_main_v7, val_main_v6, val_main_v5, val_main_v4, val_main_v3, val_main_v2, val_main_v1, val_main_v0, val_main_cst]
  rfl

theorem v12_apply (T : Fin 32768) (e : Fin 8) : val_main_v12 (F := Ideal) x0 x1 x2 x6 (ix2 T e) = lg x0 x1 x2 x6 T e := by
  pointwise [val_main_v12]
  simp only [v7_apply]
  rfl

theorem v12_row (T : Fin 32768) : (fun e => val_main_v12 (F := Ideal) x0 x1 x2 x6 (ix2 T e)) = lg x0 x1 x2 x6 T :=
  funext fun e => v12_apply x0 x1 x2 x6 T e

theorem top0 (T : Fin 32768) : val_main_values (F := Ideal) x0 x1 x2 x6 (ix2 T 0) = lg x0 x1 x2 x6 T (first (lg x0 x1 x2 x6 T))
    ∧ val_main_indices (F := Ideal) x0 x1 x2 x6 (ix2 T 0) = BitVec.ofNat 32 (first (lg x0 x1 x2 x6 T)).val := by
  have h := topK_apply (val_main_v12 (F := Ideal) x0 x1 x2 x6) T 0 (first (lg x0 x1 x2 x6 T)) Gen.sliceFits_S32768x8_S32768x2 (by rw [v12_row]; rfl)
  exact ⟨h.1.trans (v12_apply ..), h.2⟩

theorem top1 (T : Fin 32768) : val_main_values (F := Ideal) x0 x1 x2 x6 (ix2 T 1) = lg x0 x1 x2 x6 T (second (lg x0 x1 x2 x6 T))
    ∧ val_main_indices (F := Ideal) x0 x1 x2 x6 (ix2 T 1) = BitVec.ofNat 32 (second (lg x0 x1 x2 x6 T)).val := by
  have h := topK_apply (val_main_v12 (F := Ideal) x0 x1 x2 x6) T 1 (second (lg x0 x1 x2 x6 T)) Gen.sliceFits_S32768x8_S32768x2 (by rw [v12_row]; rfl)
  exact ⟨h.1.trans (v12_apply ..), h.2⟩

/-- The softmax subtracts the greater of the two. -/
theorem v15_apply (T : Fin 32768) :
    val_main_v15 (F := Ideal) x0 x1 x2 x6 (ix1 T) = lg x0 x1 x2 x6 T (first (lg x0 x1 x2 x6 T)) := by
  have hb : Ideal.ofBits .f32 4286578688#32 = ⊥ := by simp [Ideal.ofBits, Ideal.ieee]
  pointwise [val_main_v15, val_main_v14, val_main_v13, val_main_cst_1, val_main_cst_0]
  rw [hb, max_eq_right bot_le]
  refine le_antisymm ((Finset.fold_max_le _).mpr ⟨bot_le, fun j _ => ?_⟩)
    ((Finset.le_fold_max _).mpr (.inr ⟨0, Finset.mem_univ _, (top0 x0 x1 x2 x6 T).1.ge⟩))
  fin_cases j
  · exact (top0 x0 x1 x2 x6 T).1.le
  · exact (top1 x0 x1 x2 x6 T).1.le.trans (le_first _ _)

/-- A finite number less itself has exponential one. -/
theorem exp_self {a : EReal} (h : ∃ r : ℝ, a = r) : Ideal.exp (a - a) = 1 := by
  obtain ⟨r, rfl⟩ := h
  rw [← EReal.coe_sub, sub_self, Ideal.exp_coe, Real.exp_zero, EReal.coe_one]

theorem v23_apply (T : Fin 32768) (j : Fin 2) (hx : ∀ e, ∃ r : ℝ, lg x0 x1 x2 x6 T e = r) :
    val_main_v23 (F := Ideal) x0 x1 x2 x6 (ix2 T j)
      = Ideal.div (if j = 0 then 1 else runner (lg x0 x1 x2 x6 T)) (1 + runner (lg x0 x1 x2 x6 T)) := by
  pointwise [val_main_v23, val_main_v22, val_main_v21, val_main_v20, val_main_v19, val_main_v18, val_main_v17, val_main_v16, val_main_cst_2]
  rw [Fin.sum_univ_two, v15_apply, (top0 x0 x1 x2 x6 T).1, (top1 x0 x1 x2 x6 T).1, exp_self (hx _)]
  fin_cases j
  · show Ideal.div (Ideal.exp (val_main_values (F := Ideal) x0 x1 x2 x6 (ix2 T 0) - _)) _ = _
    rw [(top0 x0 x1 x2 x6 T).1, exp_self (hx _)]
    rfl
  · show Ideal.div (Ideal.exp (val_main_values (F := Ideal) x0 x1 x2 x6 (ix2 T 1) - _)) _ = _
    rw [(top1 x0 x1 x2 x6 T).1]
    rfl

/-- A select on an integer comparison is an `if`. -/
theorem select_eq {α : Type} (a b : BitVec 32) (x y : α) :
    Scalar.select (IntOp.cmpi .eq a b) x y = if a = b then x else y := by
  by_cases h : a = b
  · simp [Scalar.select, IntOp.cmpi, h]
  · have hb : (a == b) = false := by simpa using h
    simp [Scalar.select, IntOp.cmpi, h, hb]

theorem v39_apply (T : Fin 32768) (e : Fin 8) (hx : ∀ e, ∃ r : ℝ, lg x0 x1 x2 x6 T e = r) :
    val_main_v39 (F := Ideal) x0 x1 x2 x6 (ix2 e T) = weight (lg x0 x1 x2 x6 T) e := by
  have hz : (id (constant (F := Ideal) S_ FTy.f32 0#32) : FVec Ideal S_ .f32) ix0 = 0 := Ideal.ofBits_zero_f32
  have h (a : Fin 8) : BitVec.ofNat 32 a.val = BitVec.ofNat 32 e.val ↔ a = e :=
    (ofNat_inj (by omega) (by omega)).trans ⟨fun h => Fin.ext h, fun h => congrArg Fin.val h⟩
  pointwise [val_main_v39, val_main_v32, val_main_v31, val_main_v30, val_main_v29, val_main_v28, val_main_v27, val_main_v26,
    val_main_v25, val_main_v24, val_main_call0_v1, val_main_call0_v2, val_main_call0_v0, val_main_cst_3, val_main_cst_4]
  rw [Fin.sum_univ_two, select_eq, select_eq, (top0 x0 x1 x2 x6 T).2, (top1 x0 x1 x2 x6 T).2, v23_apply _ _ _ _ _ _ hx,
    v23_apply _ _ _ _ _ _ hx, hz]
  simp only [h]
  rfl

theorem v38_apply (T : Fin 32768) (e : Fin 8) (n : Fin 1024) :
    val_main_v38 (F := Ideal) x0 x1 x2 x7 x8 (ix3 e T n) = expert x0 x1 x2 x7 x8 T n e := by
  pointwise [val_main_v38, val_main_v37, val_main_v36, val_main_v35, val_main_v34, val_main_v33, val_main_call1_v0,
    val_main_call1_v1, val_main_call1_v2, val_main_call1_v3, val_main_call1_v4, val_main_call1_v5, val_main_call1_cst,
    val_main_call1_cst_0, val_main_v8, val_main_v9, val_main_v10, val_main_v11]
  simp only [v7_apply]
  rfl

/-- The mixture at token `T`. -/
theorem v43_apply (T : Fin 32768) (n : Fin 1024) (hx : ∀ e, ∃ r : ℝ, lg x0 x1 x2 x6 T e = r) :
    val_main_v43 (F := Ideal) x0 x1 x2 x6 x7 x8 (ix2 T n)
      = ∑ e, weight (lg x0 x1 x2 x6 T) e * expert x0 x1 x2 x7 x8 T n e := by
  pointwise [val_main_v43, val_main_v42, val_main_v41, val_main_v40, val_main_cst_5]
  exact Finset.sum_congr rfl fun e _ => by rw [v39_apply _ _ _ _ _ _ hx, v38_apply]

/-- The residual row of token `T`, the mixture's row left as the reference computes it. -/
def rowZ (T : Fin 32768) : Fin 1024 → EReal :=
  Cert.Row.resid (fun k => x0 (ix2 T k)) (fun k => x3 (ix3 (bt T) 0 k))
    (fun k => val_main_v43 (F := Ideal) x0 x1 x2 x6 x7 x8 (ix2 T k))

theorem bt_tk (b : Fin 16) (s : Fin 2048) : bt (tk b s) = b := Fin.ext (by show (b.val * 2048 + s.val) / 2048 = b.val; omega)

theorem v51_apply (b : Fin 16) (s : Fin 2048) (n : Fin 1024) :
    val_main_v51 (F := Ideal) x0 x1 x2 x3 x6 x7 x8 (ix3 b s n) = rowZ x0 x1 x2 x3 x6 x7 x8 (tk b s) n := by
  pointwise [val_main_v51, val_main_v50, val_main_v49, val_main_v48, val_main_v47, val_main_v46, val_main_v45, val_main_v44,
    val_main_v0, val_main_cst_6, val_main_cst_7]
  unfold rowZ
  rw [bt_tk]
  rfl

theorem v57_apply (b : Fin 16) (s : Fin 2048) :
    val_main_v57 (F := Ideal) x0 x1 x2 x3 x6 x7 x8 (ix3 b s 0) = Cert.Row.mean (rowZ x0 x1 x2 x3 x6 x7 x8 (tk b s)) := by
  pointwise [val_main_v57, val_main_v56, val_main_v55, val_main_v54, val_main_cst_8, val_main_cst_9]
  simp only [v51_apply]
  rfl

theorem v60_apply (b : Fin 16) (s : Fin 2048) (n : Fin 1024) :
    val_main_v60 (F := Ideal) x0 x1 x2 x3 x6 x7 x8 (ix3 b s n)
      = (fun k => (rowZ x0 x1 x2 x3 x6 x7 x8 (tk b s) k - Cert.Row.mean (rowZ x0 x1 x2 x3 x6 x7 x8 (tk b s)))
        * (rowZ x0 x1 x2 x3 x6 x7 x8 (tk b s) k - Cert.Row.mean (rowZ x0 x1 x2 x3 x6 x7 x8 (tk b s)))) n := by
  pointwise [val_main_v60, val_main_v59, val_main_v58]
  rw [v51_apply, v57_apply]

theorem v77_apply (b : Fin 16) (s : Fin 2048) (n : Fin 1024) :
    val_main_v77 (F := Ideal) x0 x1 x2 x3 x4 x5 x6 x7 x8 (ix3 b s n)
      = Cert.Row.norm (rowZ x0 x1 x2 x3 x6 x7 x8 (tk b s)) (fun k => x4 (ix2 0 k)) (fun k => x5 (ix2 0 k)) n := by
  pointwise [val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v53, val_main_v52, val_main_cst_10, val_main_cst_11, val_main_cst_12]
  simp only [v51_apply, v57_apply, v60_apply]
  rfl

/-- The reference's result at token `T`: the normalized row. -/
theorem v78_apply (T : Fin 32768) (n : Fin 1024) :
    val_main_v78 (F := Ideal) x0 x1 x2 x3 x4 x5 x6 x7 x8 (ix2 T n)
      = Cert.Row.norm (rowZ x0 x1 x2 x3 x6 x7 x8 T) (fun k => x4 (ix2 0 k)) (fun k => x5 (ix2 0 k)) n := by
  have hT : tk (bt T) ⟨T.val % 2048, Nat.mod_lt _ (by decide)⟩ = T :=
    Fin.ext (by show T.val / 2048 * 2048 + T.val % 2048 = T.val; omega)
  have h := v77_apply x0 x1 x2 x3 x4 x5 x6 x7 x8 (bt T) ⟨T.val % 2048, Nat.mod_lt _ (by decide)⟩ n
  rw [hT] at h
  rw [← h]
  pointwise [val_main_v78]
  rfl

end Cert.MoeRefIdeal.Hand

end
-- ==== Proof.Moe.Equal.lean ====
/-
  The two programs' results are equal. A token whose row holds an infinity comes out as the normalization's offset on both
  sides; any other token's logits are finite, so the kernel's routing weights are the reference's, nonnegative and finite,
  and the kernel's sum over experts and blocks is the reference's sum over experts.
-/
module

public import proofs.«01_k».proof.Pre_routing_finite
public import proofs.«01_k».proof.Proof.Moe.Fold
public import proofs.«01_k».proof.Proof.Moe.RefValue

@[expose] public section

set_option maxRecDepth 16384

noncomputable section

namespace Cert.Equal

open Idealize.ShloMosaic Idealize.ShloMosaic.TcCoe Idealize.ShloMosaic.Pointwise Idealize.SL.Sem Cert.Routing
open scoped BigOperators

/-- The side conditions of the precondition's operations. -/
theorem preFacts : Cert.Pre_routing_finite.Facts where
  bcast_S_S16x1x1024 := by decide
  bcast_S_S1024x8 := by decide

/-- An array without infinities. -/
def AllReal {s : Shape} (a : FVec Ideal s .f32) : Prop := ∀ i, ∃ r : ℝ, a i = r

/-- An array whose absolute values are below infinity is real. -/
theorem real_of_olt {s s0 : Shape} (a : FVec Ideal s .f32) (d : Fin s0.rank → Fin s.rank) (h : s0.BroadcastsInDim s d)
    (ha : cmpf .olt (Host.absf a) (broadcastInDim s d h (constant s0 .f32 0x7F800000#32)) = fun _ => 1#1) :
    AllReal a := by
  intro i
  have hi := congrFun ha i
  have ht : Ideal.ofBits .f32 0x7F800000#32 = ⊤ := by simp [Ideal.ofBits, Ideal.ieee]
  change BitVec.ofBool (decide (max (a i) (-(a i)) < Ideal.ofBits .f32 0x7F800000#32)) = 1#1 at hi
  rw [ht] at hi
  by_cases hlt : max (a i) (-(a i)) < ⊤
  · refine Cert.Row.not_inf fun h => ?_
    rcases h with h | h <;> rw [h] at hlt <;> simp at hlt
  · rw [decide_eq_false hlt] at hi
    exact absurd hi (by decide)

section

open Cert.MoeIdeal Cert.MoeIdeal.Value Cert.MoeIdeal.Hand Cert.MoeRefIdeal.Read

variable (m : (ℓ : Loc nD τ sig) → Buf (Elt Ideal) ℓ) (c : Dev nD)

/-- The kernel's sum over experts and blocks of hidden units is the reference's mixture, the logits being finite. -/
theorem mixture (T : Fin 32768) (n : Fin 1024) (hx : ∀ e, ∃ r : ℝ, modLogits m c T e = r) :
    ∑ p, part m c T n p
      = val_main_v43 (F := Ideal) (m ((c : Thread nD τ).loc main_arg0)) (m ((c : Thread nD τ).loc main_arg1))
          (m ((c : Thread nD τ).loc main_arg2)) (m ((c : Thread nD τ).loc main_arg6)) (m ((c : Thread nD τ).loc main_arg7))
          (m ((c : Thread nD τ).loc main_arg8)) (ix2 T n) := by
  have h0 (e : Fin 8) : 0 ≤ weight (modLogits m c T) e := by
    obtain ⟨s, hs, hw⟩ := weight_real hx e
    rw [hw]; exact_mod_cast hs
  have ht (e : Fin 8) : weight (modLogits m c T) e ≠ ⊤ := by
    obtain ⟨s, hs, hw⟩ := weight_real hx e
    rw [hw]; exact EReal.coe_ne_top s
  rw [Cert.MoeRefIdeal.Hand.v43_apply _ _ _ _ _ _ T n hx]
  unfold part
  simp only [laneWeight_lane hx]
  exact Cert.Row.mixture_steps h0 ht fun e j => addend m c T n e j

theorem results (hsc : AllReal (s := S16x1x1024) (m ((c : Thread nD τ).loc main_arg1))) (hsh : AllReal (s := S16x1x1024) (m ((c : Thread nD τ).loc main_arg2)))
    (hR : AllReal (s := S1024x8) (m ((c : Thread nD τ).loc main_arg6))) :
    val_main_v78 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) = G10 m c := by
  refine funext fun i => ?_
  obtain ⟨T, n, rfl⟩ : ∃ (T : Fin 32768) (n : Fin 1024), i = ix2 T n := ⟨i 0, i 1, eq_ix2 i⟩
  rw [Cert.MoeRefIdeal.Hand.v78_apply, result]
  by_cases hinf : ∃ d, Cert.Row.Inf (m ((c : Thread nD τ).loc main_arg0) (ix2 T d))
  · obtain ⟨d, hd⟩ := hinf
    rw [Cert.Row.out_inf (d := d) hd]
    exact congrFun (Cert.Row.out_inf (x := fun k => m ((c : Thread nD τ).loc main_arg0) (ix2 T k)) (d := d) hd) n
  · have hx := Cert.Row.logits_real (fun k => Cert.Row.not_inf fun h => hinf ⟨k, h⟩) (fun k => hsc (ix3 (batch T) 0 k))
      (fun k => hsh (ix3 (batch T) 0 k)) fun k e => hR (ix2 k e)
    simp only [fun n => mixture m c T n hx]
    rfl

end

end Cert.Equal

end
-- ==== Proof.Up.Value.lean ====
/-
  The dense feed-forward's first call: what its blocks hold at a grid point, what its body computes from them, and the
  array it leaves. Point `t` holds the 512 tokens from `512 * t` on; the body stores eleven pieces of 256 hidden units.
-/
module

public import proofs.«01_k».proof.Proof.Gen.UpIdeal.Value
public import proofs.«01_k».proof.Proof.Moe.Row
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.UpIdeal.Hand

open Cert.UpIdeal Cert.UpIdeal.Gen Cert.UpIdeal.Value Idealize.ShloMosaic Idealize.ShloMosaic.TcCoe
open Idealize.ShloMosaic.Pointwise Idealize.SL.Sem

variable (m : (ℓ : Loc nD τ sig) → Buf (Elt Ideal) ℓ)

/-- The windows' block indices at every point. -/
theorem index (t : Fin cfg0.N) :
    (win0_0.index t = ![t.val, 0] ∧ win0_1.index t = ![t.val / 4, 0, 0] ∧ win0_2.index t = ![t.val / 4, 0, 0])
    ∧ (win0_3.index t = ![0, 0] ∧ win0_4.index t = ![0, 0] ∧ win0_5.index t = ![t.val, 0]) := by
  revert t; decide +kernel

theorem lt_N (t : Fin cfg0.N) : t.val < 64 := t.isLt

/-- The token `r` of the block of point `t`. -/
def tok (t : Fin cfg0.N) (r : Fin 512) : Fin 32768 := ⟨512 * t.val + r, by have := lt_N t; omega⟩

/-- The batch of token `T`. -/
def batch (T : Fin 32768) : Fin 16 := ⟨T / 2048, by omega⟩

/-- The gate's column of hidden unit `n`. -/
def gateCol (n : Fin 2816) : Fin 5632 := ⟨n, by omega⟩

/-- The up projection's column of hidden unit `n`. -/
def upCol (n : Fin 2816) : Fin 5632 := ⟨2816 + n, by omega⟩

/-- The gate's weights as the host leaves them: the first layer's left half. -/
def gateW (x : FVec Ideal S2x1024x5632 .f32) : FVec Ideal S1024x2816 .bf16 :=
  shapeCast S1024x2816 (extractStridedSlice S1x1024x2816 ![0, 0, 0]
    (truncf .bf16 (extractStridedSlice S2x1024x2816 ![0, 0, 0] x slices_S2x1024x5632_S2x1024x2816_0_0_0) bitsLt_bf16_f32)
    slices_S2x1024x2816_S1x1024x2816_0_0_0) shapeCasts_S1x1024x2816_S1024x2816

/-- The up projection's weights: the first layer's right half. -/
def upW (x : FVec Ideal S2x1024x5632 .f32) : FVec Ideal S1024x2816 .bf16 :=
  shapeCast S1024x2816 (extractStridedSlice S1x1024x2816 ![0, 0, 0]
    (truncf .bf16 (extractStridedSlice S2x1024x2816 ![0, 0, 2816] x slices_S2x1024x5632_S2x1024x2816_0_0_2816) bitsLt_bf16_f32)
    slices_S2x1024x2816_S1x1024x2816_0_0_0) shapeCasts_S1x1024x2816_S1024x2816

theorem gateW_apply (x : FVec Ideal S2x1024x5632 .f32) (k : Fin 1024) (n : Fin 2816) :
    gateW x (ix2 k n) = x (ix3 0 k (gateCol n)) := by
  pointwise [gateW]
  rfl

theorem upW_apply (x : FVec Ideal S2x1024x5632 .f32) (k : Fin 1024) (n : Fin 2816) :
    upW x (ix2 k n) = x (ix3 0 k (upCol n)) := by
  pointwise [upW]
  rfl

theorem V_gate (c : Dev nD) : V m c main_v5 = gateW (m ((c : Thread nD τ).loc main_arg3)) := by
  unfold V hostOps0
  after_results
  rfl

theorem V_up (c : Dev nD) : V m c main_v7 = upW (m ((c : Thread nD τ).loc main_arg3)) := by
  unfold V hostOps0
  after_results
  rfl

theorem iblk0 (c : Dev nD) (t : Fin cfg0.N) (r : Fin 512) (k : Fin 1024) :
    iblk m c 0 t (ix2 r k) = m ((c : Thread nD τ).loc main_arg0) (ix2 (tok t r) k) := by
  obtain ⟨⟨h0, h1, h2⟩, h3, h4, h5⟩ := index t
  blk_ext [iblk, V, h0, tok]

theorem iblk1 (c : Dev nD) (t : Fin cfg0.N) (r : Fin 512) (k : Fin 1024) :
    iblk m c 1 t (ix3 0 0 k) = m ((c : Thread nD τ).loc main_arg1) (ix3 (batch (tok t r)) 0 k) := by
  obtain ⟨⟨h0, h1, h2⟩, h3, h4, h5⟩ := index t
  blk_ext [iblk, V, h1, batch, tok]

theorem iblk2 (c : Dev nD) (t : Fin cfg0.N) (r : Fin 512) (k : Fin 1024) :
    iblk m c 2 t (ix3 0 0 k) = m ((c : Thread nD τ).loc main_arg2) (ix3 (batch (tok t r)) 0 k) := by
  obtain ⟨⟨h0, h1, h2⟩, h3, h4, h5⟩ := index t
  blk_ext [iblk, V, h2, batch, tok]

theorem iblk3 (c : Dev nD) (t : Fin cfg0.N) (k : Fin 1024) (n : Fin 2816) :
    iblk m c 3 t (ix2 k n) = m ((c : Thread nD τ).loc main_arg3) (ix3 0 k (gateCol n)) := by
  obtain ⟨⟨h0, h1, h2⟩, h3, h4, h5⟩ := index t
  have h : iblk m c 3 t (ix2 k n) = V m c main_v5 (ix2 k n) := by blk_ext [iblk, h3]
  rw [h, V_gate]
  exact gateW_apply _ k n

theorem iblk4 (c : Dev nD) (t : Fin cfg0.N) (k : Fin 1024) (n : Fin 2816) :
    iblk m c 4 t (ix2 k n) = m ((c : Thread nD τ).loc main_arg3) (ix3 0 k (upCol n)) := by
  obtain ⟨⟨h0, h1, h2⟩, h3, h4, h5⟩ := index t
  have h : iblk m c 4 t (ix2 k n) = V m c main_v7 (ix2 k n) := by blk_ext [iblk, h4]
  rw [h, V_up]
  exact upW_apply _ k n

section
variable (x0 : Vec Ideal S512x1024 .f32) (x1 x2 : Vec Ideal S1x1x1024 .f32) (x3 x4 : Vec Ideal S1024x2816 .bf16)

/-- The modulated rows of a block, as the body computes them. -/
def modulated : FVec Ideal S512x1024 .bf16 := k0_pay1 (View.ld x0 r0_0) (View.ld x1 r0_1) (View.ld x2 r0_1)

theorem modulated_apply (r : Fin 512) (k : Fin 1024) : modulated x0 x1 x2 (ix2 r k)
    = Cert.Row.hid (fun k => x0 (ix2 r k)) (fun k => x1 (ix3 0 0 k)) (fun k => x2 (ix3 0 0 k)) k := by
  have e0 : View.ld x0 r0_0 = x0 := funext fun i => View.ld_unit_apply_of x0 _ _ _ i i fun a => by fin_cases a <;> simp
  have e1 : View.ld x1 r0_1 = x1 := funext fun i => View.ld_unit_apply_of x1 _ _ _ i i fun a => by fin_cases a <;> simp
  have e2 : View.ld x2 r0_1 = x2 := funext fun i => View.ld_unit_apply_of x2 _ _ _ i i fun a => by fin_cases a <;> simp
  unfold modulated
  rw [e0, e1, e2]
  pointwise [k0_pay1]
  rfl

/-- One piece's payload at an index. -/
theorem pay4_apply (v11 : FVec Ideal S512x1024 .bf16) (v34 v37 : Vec Ideal S1024x256 .bf16) (r : Fin 512) (q : Fin 256) :
    k0_pay4 v11 v34 v37 (ix2 r q)
      = Cert.Row.hidden (fun k => v11 (ix2 r k)) (fun k => v34 (ix2 k q)) (fun k => v37 (ix2 k q)) := by
  pointwise [k0_pay4]
  rfl

/-- The hidden unit `n` of row `r` of a block. -/
def blockUnit (r : Fin 512) (n : Fin 2816) : EReal :=
  Cert.Row.hidden (fun k => Cert.Row.hid (fun k => x0 (ix2 r k)) (fun k => x1 (ix3 0 0 k)) (fun k => x2 (ix3 0 0 k)) k)
    (fun k => x3 (ix2 k n)) (fun k => x4 (ix2 k n))

/-- The piece of the 256 units from `o` on: at row `r`, column `q` it holds the hidden unit `o + q`. -/
theorem piece (o : ℕ) (inb : ∀ a, ![0, o] a + S1024x256.size a ≤ S1024x2816.size a) (y : S512x2816.Idx) (x : S512x256.Idx)
    (h0 : (y 0).val = 0 + (x 0).val) (h1 : (y 1).val = o + (x 1).val) :
    k0_pay4 (modulated x0 x1 x2) (View.ld x3 (Rect.unit (s := S1024x2816) ![0, o] S1024x256.size inb))
      (View.ld x4 (Rect.unit (s := S1024x2816) ![0, o] S1024x256.size inb)) x = blockUnit x0 x1 x2 x3 x4 (y 0) (y 1) := by
  obtain ⟨r, q, rfl⟩ : ∃ (r : Fin 512) (q : Fin 256), x = ix2 r q := ⟨x 0, x 1, eq_ix2 x⟩
  have hr : y 0 = r := Fin.ext (h0.trans (Nat.zero_add _))
  have l3 (k : Fin 1024) : View.ld x3 (Rect.unit (s := S1024x2816) ![0, o] S1024x256.size inb) (ix2 k q) = x3 (ix2 k (y 1)) :=
    View.ld_unit_apply_of x3 _ _ _ _ (ix2 k (y 1)) fun a => by
      fin_cases a
      · exact (Nat.zero_add _).symm
      · exact h1
  have l4 (k : Fin 1024) : View.ld x4 (Rect.unit (s := S1024x2816) ![0, o] S1024x256.size inb) (ix2 k q) = x4 (ix2 k (y 1)) :=
    View.ld_unit_apply_of x4 _ _ _ _ (ix2 k (y 1)) fun a => by
      fin_cases a
      · exact (Nat.zero_add _).symm
      · exact h1
  refine (pay4_apply _ _ _ r q).trans ?_
  unfold blockUnit
  rw [hr]
  congr 1
  · exact funext fun k => modulated_apply x0 x1 x2 r k
  · exact funext l3
  · exact funext l4

theorem out_apply (y : S512x2816.Idx) : out0_5 x0 x1 x2 x3 x4 y = blockUnit x0 x1 x2 x3 x4 (y 0) (y 1) := by
  canon_tiles x h
  all_goals exact piece x0 x1 x2 x3 x4 _ _ y x (by omega) (by omega)

end

/-- The result at token `T`: its hidden units. -/
def row (x0 : FVec Ideal S32768x1024 .f32) (x1 x2 : FVec Ideal S16x1x1024 .f32) (x3 : FVec Ideal S2x1024x5632 .f32)
    (T : Fin 32768) (n : Fin 2816) : EReal :=
  Cert.Row.hidden (Cert.Row.hid (fun k => x0 (ix2 T k)) (fun k => x1 (ix3 (batch T) 0 k)) (fun k => x2 (ix3 (batch T) 0 k)))
    (fun k => x3 (ix3 0 k (gateCol n))) (fun k => x3 (ix3 0 k (upCol n)))

/-- The array of the rows. -/
def G (c : Dev nD) : FVec Ideal S32768x2816 .bf16 := fun i =>
  row (m ((c : Thread nD τ).loc main_arg0)) (m ((c : Thread nD τ).loc main_arg1)) (m ((c : Thread nD τ).loc main_arg2))
    (m ((c : Thread nD τ).loc main_arg3)) (i 0) (i 1)

theorem after_apply (c : Dev nD) (t : Fin cfg0.N) (r : Fin 512) (n : Fin 2816) :
    out0_5 (iblk m c 0 t) (iblk m c 1 t) (iblk m c 2 t) (iblk m c 3 t) (iblk m c 4 t) (ix2 r n) = G m c (ix2 (tok t r) n) := by
  refine (out_apply _ _ _ _ _ _).trans ?_
  show blockUnit _ _ _ _ _ r n = _
  unfold blockUnit
  simp only [iblk0, iblk1 m c t r, iblk2 m c t r, iblk3, iblk4]
  rfl

theorem final (c : Dev nD) : (dats m 0 c).arrAt 5 cfg0.N = G m c := by
  refine (dats m 0 c).arrAt_eq_of_covers 5 _ (by decide +kernel) fun t hf y => ?_
  obtain ⟨⟨h0, h1, h2⟩, h3, h4, h5⟩ := index t
  obtain ⟨r, n, rfl⟩ : ∃ (r : Fin 512) (n : Fin 2816), y = ix2 r n := ⟨y 0, y 1, eq_ix2 y⟩
  have he : ((cfg0.win 5).blk t).view.emb (ix2 r n) = ix2 (tok t r) n := by blk_ext [h5, tok]
  rw [he]
  blk_simp
  rw [after0_5]
  exact after_apply m c t r n

end Cert.UpIdeal.Hand

end
-- ==== Proof.Up.RefValue.lean ====
/-
  The reference of the dense feed-forward's first call, read at a token.
-/
module

public import proofs.«01_k».proof.Proof.Gen.UpRefIdeal.Read
public import proofs.«01_k».proof.Proof.Moe.Row
public import Idealize.ShloMosaic.Lib.Pointwise

@[expose] public section

set_option maxRecDepth 16384

noncomputable section

namespace Cert.UpRefIdeal.Hand

open Cert.UpRefIdeal Cert.UpRefIdeal.Read Idealize.ShloMosaic Idealize.ShloMosaic.Pointwise Idealize.SL.Sem

/-- The batch of token `T`. -/
def batch (T : Fin 32768) : Fin 16 := ⟨T / 2048, by omega⟩

/-- Token `s` of batch `b`. -/
def tk (b : Fin 16) (s : Fin 2048) : Fin 32768 := ⟨b * 2048 + s, by omega⟩

theorem batch_tk (b : Fin 16) (s : Fin 2048) : batch (tk b s) = b :=
  Fin.ext (by show (b.val * 2048 + s.val) / 2048 = b.val; omega)

variable (x0 : FVec Ideal S32768x1024 .f32) (x1 x2 : FVec Ideal S16x1x1024 .f32) (x3 : FVec Ideal S2x1024x5632 .f32)

/-- The modulated row of token `T`. -/
def hid (T : Fin 32768) : Fin 1024 → EReal :=
  Cert.Row.hid (fun k => x0 (ix2 T k)) (fun k => x1 (ix3 (batch T) 0 k)) (fun k => x2 (ix3 (batch T) 0 k))

theorem v6_apply (b : Fin 16) (s : Fin 2048) (k : Fin 1024) :
    val_main_v6 (F := Ideal) x0 x1 x2 (ix3 b s k) = hid x0 x1 x2 (tk b s) k := by
  pointwise [val_main_v6, val_main_v5, val_main_v4, val_main_v3, val_main_v2, val_main_v1, val_main_v0, val_main_cst]
  unfold hid
  rw [batch_tk]
  rfl

theorem v9_apply (b : Fin 16) (s : Fin 2048) (n : Fin 5632) :
    val_main_v9 (F := Ideal) x0 x1 x2 x3 (ix3 b s n) = ∑ k, hid x0 x1 x2 (tk b s) k * x3 (ix3 0 k n) := by
  pointwise [val_main_v9, val_main_v8, val_main_v7]
  simp only [v6_apply]

theorem v13_apply (b : Fin 16) (s : Fin 2048) (n : Fin 2816) :
    val_main_v13 (F := Ideal) x0 x1 x2 x3 (ix3 b s n) = Cert.Row.hidden (hid x0 x1 x2 (tk b s))
      (fun k => x3 (ix3 0 k ⟨n, by omega⟩)) (fun k => x3 (ix3 0 k ⟨2816 + n, by omega⟩)) := by
  pointwise [val_main_v13, val_main_v12, val_main_call0_v5, val_main_call0_v4, val_main_call0_cst_0, val_main_call0_v3,
    val_main_call0_v2, val_main_call0_cst, val_main_call0_v1, val_main_call0_v0, val_main_v11, val_main_v10]
  simp only [v9_apply]
  rfl

/-- The reference's result at token `T`: its hidden units. -/
theorem v15_apply (T : Fin 32768) (n : Fin 2816) :
    val_main_v15 (F := Ideal) x0 x1 x2 x3 (ix2 T n) = Cert.Row.hidden (hid x0 x1 x2 T)
      (fun k => x3 (ix3 0 k ⟨n, by omega⟩)) (fun k => x3 (ix3 0 k ⟨2816 + n, by omega⟩)) := by
  have hT : tk (batch T) ⟨T.val % 2048, Nat.mod_lt _ (by decide)⟩ = T :=
    Fin.ext (by show T.val / 2048 * 2048 + T.val % 2048 = T.val; omega)
  have h := v13_apply x0 x1 x2 x3 (batch T) ⟨T.val % 2048, Nat.mod_lt _ (by decide)⟩ n
  rw [hT] at h
  rw [← h]
  pointwise [val_main_v15, val_main_v14]
  rfl

end Cert.UpRefIdeal.Hand

end
-- ==== Proof.Up.Equal.lean ====
/-
  The dense feed-forward's first call and its reference leave the same array.
-/
module

public import proofs.«01_k».proof.Proof.Up.Value
public import proofs.«01_k».proof.Proof.Up.RefValue

@[expose] public section

set_option maxRecDepth 16384

noncomputable section

namespace Cert.UpIdeal.Hand

open Cert.UpIdeal Idealize.ShloMosaic Idealize.ShloMosaic.TcCoe Idealize.ShloMosaic.Pointwise Idealize.SL.Sem

variable (m : (ℓ : Loc nD τ sig) → Buf (Elt Ideal) ℓ)

theorem results (c : Dev nD) :
    Cert.UpRefIdeal.Read.val_main_v15 (F := Ideal) (m ((c : Thread nD τ).loc main_arg0)) (m ((c : Thread nD τ).loc main_arg1))
        (m ((c : Thread nD τ).loc main_arg2)) (m ((c : Thread nD τ).loc main_arg3)) = G m c := by
  refine funext fun i => ?_
  obtain ⟨T, n, rfl⟩ : ∃ (T : Fin 32768) (n : Fin 2816), i = ix2 T n := ⟨i 0, i 1, eq_ix2 i⟩
  rw [Cert.UpRefIdeal.Hand.v15_apply]
  rfl

end Cert.UpIdeal.Hand

end
-- ==== Proof.Out.Value.lean ====
/-
  The output projection's call: what its blocks hold at a grid point, what its body computes from them, and the array it
  leaves, row by row. Point `t` holds the 512 tokens from `512 * t` on; each is one row of the result.
-/
module

public import proofs.«01_k».proof.Proof.Gen.OutIdeal.Value
public import proofs.«01_k».proof.Proof.Moe.Row
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.OutIdeal.Hand

open Cert.OutIdeal Cert.OutIdeal.Gen Cert.OutIdeal.Value Idealize.ShloMosaic Idealize.ShloMosaic.TcCoe
open Idealize.ShloMosaic.Pointwise Idealize.SL.Sem

variable (m : (ℓ : Loc nD τ sig) → Buf (Elt Ideal) ℓ)

/-- The windows' block indices at every point. -/
theorem index (t : Fin cfg0.N) :
    (win0_0.index t = ![t.val, 0] ∧ win0_1.index t = ![t.val / 4, 0, 0] ∧ win0_2.index t = ![0, 0] ∧ win0_3.index t = ![0, 0]
      ∧ win0_4.index t = ![t.val, 0])
    ∧ (win0_5.index t = ![t.val, 0] ∧ win0_6.index t = ![t.val, 0] ∧ win0_7.index t = ![t.val, 0] ∧ win0_8.index t = ![0, 0]
      ∧ win0_9.index t = ![t.val, 0]) := by
  revert t; decide +kernel

theorem lt_N (t : Fin cfg0.N) : t.val < 64 := t.isLt

/-- The token `r` of the block of point `t`. -/
def tok (t : Fin cfg0.N) (r : Fin 512) : Fin 32768 := ⟨512 * t.val + r, by have := lt_N t; omega⟩

/-- The batch of token `T`. -/
def batch (T : Fin 32768) : Fin 16 := ⟨T / 2048, by omega⟩

/-- The weights as the host leaves them: the first of the four layers. -/
def firstLayer (x : FVec Ideal S4x1024x1024 .f32) : FVec Ideal S1024x1024 .bf16 :=
  shapeCast S1024x1024 (extractStridedSlice S1x1024x1024 ![0, 0, 0] (truncf .bf16 x bitsLt_bf16_f32)
    slices_S4x1024x1024_S1x1024x1024_0_0_0) shapeCasts_S1x1024x1024_S1024x1024

theorem firstLayer_apply (x : FVec Ideal S4x1024x1024 .f32) (j n : Fin 1024) : firstLayer x (ix2 j n) = x (ix3 0 j n) := by
  pointwise [firstLayer]

theorem V_weights (c : Dev nD) : V m c main_v2 = firstLayer (m ((c : Thread nD τ).loc main_arg8)) := by
  unfold V hostOps0
  after_results
  rfl

theorem iblk0 (c : Dev nD) (t : Fin cfg0.N) (r : Fin 512) (k : Fin 1024) :
    iblk m c 0 t (ix2 r k) = m ((c : Thread nD τ).loc main_arg0) (ix2 (tok t r) k) := by
  obtain ⟨⟨h0, h1, h2, h3, h4⟩, h5, h6, h7, h8, h9⟩ := index t
  blk_ext [iblk, V, h0, tok]

theorem iblk1 (c : Dev nD) (t : Fin cfg0.N) (r : Fin 512) (k : Fin 1024) :
    iblk m c 1 t (ix3 0 0 k) = m ((c : Thread nD τ).loc main_arg1) (ix3 (batch (tok t r)) 0 k) := by
  obtain ⟨⟨h0, h1, h2, h3, h4⟩, h5, h6, h7, h8, h9⟩ := index t
  blk_ext [iblk, V, h1, batch, tok]

theorem iblk2 (c : Dev nD) (t : Fin cfg0.N) (k : Fin 1024) :
    iblk m c 2 t (ix2 0 k) = m ((c : Thread nD τ).loc main_arg2) (ix2 0 k) := by
  obtain ⟨⟨h0, h1, h2, h3, h4⟩, h5, h6, h7, h8, h9⟩ := index t
  blk_ext [iblk, V, h2]

theorem iblk3 (c : Dev nD) (t : Fin cfg0.N) (k : Fin 1024) :
    iblk m c 3 t (ix2 0 k) = m ((c : Thread nD τ).loc main_arg3) (ix2 0 k) := by
  obtain ⟨⟨h0, h1, h2, h3, h4⟩, h5, h6, h7, h8, h9⟩ := index t
  blk_ext [iblk, V, h3]

theorem iblk4 (c : Dev nD) (t : Fin cfg0.N) (r j : Fin 512) :
    iblk m c 4 t (ix2 r j) = m ((c : Thread nD τ).loc main_arg4) (ix2 (tok t r) j) := by
  obtain ⟨⟨h0, h1, h2, h3, h4⟩, h5, h6, h7, h8, h9⟩ := index t
  blk_ext [iblk, V, h4, tok]

theorem iblk5 (c : Dev nD) (t : Fin cfg0.N) (r j : Fin 512) :
    iblk m c 5 t (ix2 r j) = m ((c : Thread nD τ).loc main_arg5) (ix2 (tok t r) j) := by
  obtain ⟨⟨h0, h1, h2, h3, h4⟩, h5, h6, h7, h8, h9⟩ := index t
  blk_ext [iblk, V, h5, tok]

theorem iblk6 (c : Dev nD) (t : Fin cfg0.N) (r j : Fin 512) :
    iblk m c 6 t (ix2 r j) = m ((c : Thread nD τ).loc main_arg6) (ix2 (tok t r) j) := by
  obtain ⟨⟨h0, h1, h2, h3, h4⟩, h5, h6, h7, h8, h9⟩ := index t
  blk_ext [iblk, V, h6, tok]

theorem iblk7 (c : Dev nD) (t : Fin cfg0.N) (r j : Fin 512) :
    iblk m c 7 t (ix2 r j) = m ((c : Thread nD τ).loc main_arg7) (ix2 (tok t r) j) := by
  obtain ⟨⟨h0, h1, h2, h3, h4⟩, h5, h6, h7, h8, h9⟩ := index t
  blk_ext [iblk, V, h7, tok]

theorem iblk8 (c : Dev nD) (t : Fin cfg0.N) (j n : Fin 1024) :
    iblk m c 8 t (ix2 j n) = m ((c : Thread nD τ).loc main_arg8) (ix3 0 j n) := by
  obtain ⟨⟨h0, h1, h2, h3, h4⟩, h5, h6, h7, h8, h9⟩ := index t
  have h : iblk m c 8 t (ix2 j n) = V m c main_v2 (ix2 j n) := by blk_ext [iblk, h8]
  rw [h, V_weights]
  exact firstLayer_apply _ j n

/-- Row `j` of the weights' upper half. -/
def lo (j : Fin 512) : Fin 1024 := ⟨j, by omega⟩
/-- Row `j` of the weights' lower half. -/
def hi (j : Fin 512) : Fin 1024 := ⟨512 + j, by omega⟩

/-- The projection of a token's attention and convolution outputs: the three attention branches are added, the weights'
    upper half multiplies them, the lower half the convolution's output. -/
def proj (oc os ow ov : Fin 512 → EReal) (w : Fin 1024 → Fin 1024 → EReal) (n : Fin 1024) : EReal :=
  (∑ j, (oc j + os j + ow j) * w (lo j) n) + ∑ j, ov j * w (hi j) n

section
variable (v0 v2 v5 v12 : Vec Ideal S512x512 .bf16) (v9 v13 : Vec Ideal S512x1024 .bf16) (v17 : Vec Ideal S512x1024 .f32)
  (v18 : Vec Ideal S1x1x1024 .f32)

/-- The residual row the body computes from its blocks. -/
def resid (r : Fin 512) : Fin 1024 → EReal :=
  Cert.Row.resid (fun k => v17 (ix2 r k)) (fun k => v18 (ix3 0 0 k)) (fun k =>
    (∑ j, (v0 (ix2 r j) + v2 (ix2 r j) + v5 (ix2 r j)) * v9 (ix2 j k)) + ∑ j, v12 (ix2 r j) * v13 (ix2 j k))

theorem pay2_apply (r : Fin 512) (n : Fin 1024) :
    k0_pay2 v0 v2 v5 v9 v12 v13 v17 v18 (ix2 r n) = resid v0 v2 v5 v12 v9 v13 v17 v18 r n := by
  pointwise [k0_pay2]
  rfl

theorem pay1_apply (v20 v21 : Vec Ideal S1x1024 .f32) (r : Fin 512) (n : Fin 1024) :
    k0_pay1 v20 v21 (k0_pay2 v0 v2 v5 v9 v12 v13 v17 v18) (k0_pay3 v0 v2 v5 v9 v12 v13 v17 v18) (k0_pay4 (F := Ideal)) (ix2 r n)
      = Cert.Row.norm (resid v0 v2 v5 v12 v9 v13 v17 v18 r) (fun k => v20 (ix2 0 k)) (fun k => v21 (ix2 0 k)) n := by
  pointwise [k0_pay1, k0_pay3, k0_pay4]
  simp only [pay2_apply]
  rfl

end

/-- The result at token `T`: the scaled residual of the projection, normalized. -/
def row (x0 : FVec Ideal S32768x1024 .f32) (x1 : FVec Ideal S16x1x1024 .f32) (x2 x3 : FVec Ideal S1x1024 .f32)
    (x4 x5 x6 x7 : FVec Ideal S32768x512 .bf16) (x8 : FVec Ideal S4x1024x1024 .f32) (T : Fin 32768) : Fin 1024 → EReal :=
  Cert.Row.out (fun k => x0 (ix2 T k)) (fun k => x1 (ix3 (batch T) 0 k)) (fun k => x2 (ix2 0 k)) (fun k => x3 (ix2 0 k))
    (proj (fun j => x4 (ix2 T j)) (fun j => x5 (ix2 T j)) (fun j => x6 (ix2 T j)) (fun j => x7 (ix2 T j)) fun j k => x8 (ix3 0 j k))

/-- The array of the rows. -/
def G (c : Dev nD) : FVec Ideal S32768x1024 .f32 := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

theorem ld_lo (c : Dev nD) (t : Fin cfg0.N) (j : Fin 512) (n : Fin 1024) :
    View.ld (iblk m c 8 t) r0_1 (ix2 j n) = m ((c : Thread nD τ).loc main_arg8) (ix3 0 (lo j) n) :=
  (View.ld_unit_apply_of (iblk m c 8 t) _ _ _ _ (ix2 (lo j) n) fun a => by fin_cases a <;> simp [lo]).trans (iblk8 m c t (lo j) n)

theorem ld_hi (c : Dev nD) (t : Fin cfg0.N) (j : Fin 512) (n : Fin 1024) :
    View.ld (iblk m c 8 t) r0_2 (ix2 j n) = m ((c : Thread nD τ).loc main_arg8) (ix3 0 (hi j) n) :=
  (View.ld_unit_apply_of (iblk m c 8 t) _ _ _ _ (ix2 (hi j) n) fun a => by fin_cases a <;> simp [hi]).trans (iblk8 m c t (hi j) n)

theorem after_apply (c : Dev nD) (t : Fin cfg0.N) (r : Fin 512) (n : Fin 1024) :
    out0_9 (iblk m c 0 t) (iblk m c 1 t) (iblk m c 2 t) (iblk m c 3 t) (iblk m c 4 t) (iblk m c 5 t) (iblk m c 6 t) (iblk m c 7 t)
      (iblk m c 8 t) (ix2 r n) = G m c (ix2 (tok t r) n) := by
  frame_out
  rw [pay1_apply]
  unfold resid
  simp only [ld_lo m c t, ld_hi m c t, iblk0, iblk1 m c t r, iblk2, iblk3, iblk4, iblk5, iblk6, iblk7]
  rfl

theorem final (c : Dev nD) : (dats m 0 c).arrAt 9 cfg0.N = G m c := by
  refine (dats m 0 c).arrAt_eq_of_covers 9 _ (by decide +kernel) fun t hf y => ?_
  obtain ⟨⟨h0, h1, h2, h3, h4⟩, h5, h6, h7, h8, h9⟩ := index t
  obtain ⟨r, n, rfl⟩ : ∃ (r : Fin 512) (n : Fin 1024), y = ix2 r n := ⟨y 0, y 1, eq_ix2 y⟩
  have he : ((cfg0.win 9).blk t).view.emb (ix2 r n) = ix2 (tok t r) n := by blk_ext [h9, tok]
  rw [he]
  blk_simp
  rw [after0_9]
  exact after_apply m c t r n

end Cert.OutIdeal.Hand

end
-- ==== Proof.Out.RefValue.lean ====
/-
  The reference of the output projection's call, read at a token.
-/
module

public import proofs.«01_k».proof.Proof.Gen.OutRefIdeal.Read
public import proofs.«01_k».proof.Proof.Moe.Row
public import Idealize.ShloMosaic.Lib.Pointwise

@[expose] public section

set_option maxRecDepth 16384

noncomputable section

namespace Cert.OutRefIdeal.Hand

open Cert.OutRefIdeal Cert.OutRefIdeal.Read Idealize.ShloMosaic Idealize.ShloMosaic.Pointwise Idealize.SL.Sem

/-- The batch of token `T`. -/
def batch (T : Fin 32768) : Fin 16 := ⟨T / 2048, by omega⟩

/-- Token `s` of batch `b`. -/
def tk (b : Fin 16) (s : Fin 2048) : Fin 32768 := ⟨b * 2048 + s, by omega⟩

theorem batch_tk (b : Fin 16) (s : Fin 2048) : batch (tk b s) = b :=
  Fin.ext (by show (b.val * 2048 + s.val) / 2048 = b.val; omega)

variable (x0 : FVec Ideal S32768x1024 .f32) (x1 : FVec Ideal S16x1x1024 .f32) (x2 x3 : FVec Ideal S1x1024 .f32)
  (x4 x5 x6 x7 : FVec Ideal S32768x512 .bf16) (x8 : FVec Ideal S4x1024x1024 .f32)

/-- The concatenated outputs of token `T`. -/
def cat (T : Fin 32768) (j : Fin 1024) : EReal :=
  if h : j.val < 512 then x4 (ix2 T ⟨j, h⟩) + x5 (ix2 T ⟨j, h⟩) + x6 (ix2 T ⟨j, h⟩) else x7 (ix2 T ⟨j - 512, by omega⟩)

/-- The residual row of token `T`. -/
def rowZ (T : Fin 32768) : Fin 1024 → EReal :=
  Cert.Row.resid (fun k => x0 (ix2 T k)) (fun k => x1 (ix3 (batch T) 0 k)) (fun k => ∑ j, cat x4 x5 x6 x7 T j * x8 (ix3 0 j k))

theorem v7_apply (T : Fin 32768) (j : Fin 1024) :
    val_main_v7 (F := Ideal) x4 x5 x6 x7 (ix2 T j) = cat x4 x5 x6 x7 T j := by
  pointwise [val_main_v7, val_main_v6, val_main_v5, val_main_v4, val_main_v3, val_main_v2, val_main_v1]
  rfl

theorem v10_apply (T : Fin 32768) (n : Fin 1024) :
    val_main_v10 (F := Ideal) x4 x5 x6 x7 x8 (ix2 T n) = ∑ j, cat x4 x5 x6 x7 T j * x8 (ix3 0 j n) := by
  pointwise [val_main_v10, val_main_v9, val_main_v8]
  simp only [v7_apply]

theorem v18_apply (b : Fin 16) (s : Fin 2048) (n : Fin 1024) :
    val_main_v18 (F := Ideal) x0 x1 x4 x5 x6 x7 x8 (ix3 b s n) = rowZ x0 x1 x4 x5 x6 x7 x8 (tk b s) n := by
  pointwise [val_main_v18, val_main_v17, val_main_v16, val_main_v15, val_main_v14, val_main_v13, val_main_v12, val_main_v11,
    val_main_v0, val_main_cst, val_main_cst_0]
  simp only [v10_apply]
  unfold rowZ
  rw [batch_tk]
  rfl

theorem v24_apply (b : Fin 16) (s : Fin 2048) :
    val_main_v24 (F := Ideal) x0 x1 x4 x5 x6 x7 x8 (ix3 b s 0) = Cert.Row.mean (rowZ x0 x1 x4 x5 x6 x7 x8 (tk b s)) := by
  pointwise [val_main_v24, val_main_v23, val_main_v22, val_main_v21, val_main_cst_1, val_main_cst_2]
  simp only [v18_apply]
  rfl

theorem v27_apply (b : Fin 16) (s : Fin 2048) (n : Fin 1024) :
    val_main_v27 (F := Ideal) x0 x1 x4 x5 x6 x7 x8 (ix3 b s n)
      = (fun k => (rowZ x0 x1 x4 x5 x6 x7 x8 (tk b s) k - Cert.Row.mean (rowZ x0 x1 x4 x5 x6 x7 x8 (tk b s)))
        * (rowZ x0 x1 x4 x5 x6 x7 x8 (tk b s) k - Cert.Row.mean (rowZ x0 x1 x4 x5 x6 x7 x8 (tk b s)))) n := by
  pointwise [val_main_v27, val_main_v26, val_main_v25]
  rw [v18_apply, v24_apply]

theorem v44_apply (b : Fin 16) (s : Fin 2048) (n : Fin 1024) :
    val_main_v44 (F := Ideal) x0 x1 x2 x3 x4 x5 x6 x7 x8 (ix3 b s n)
      = Cert.Row.norm (rowZ x0 x1 x4 x5 x6 x7 x8 (tk b s)) (fun k => x2 (ix2 0 k)) (fun k => x3 (ix2 0 k)) n := by
  pointwise [val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v20, val_main_v19, val_main_cst_3, val_main_cst_4, val_main_cst_5]
  simp only [v18_apply, v24_apply, v27_apply]
  rfl

/-- The reference's result at token `T`: the normalized row. -/
theorem v45_apply (T : Fin 32768) (n : Fin 1024) :
    val_main_v45 (F := Ideal) x0 x1 x2 x3 x4 x5 x6 x7 x8 (ix2 T n)
      = Cert.Row.norm (rowZ x0 x1 x4 x5 x6 x7 x8 T) (fun k => x2 (ix2 0 k)) (fun k => x3 (ix2 0 k)) n := by
  have hT : tk (batch T) ⟨T.val % 2048, Nat.mod_lt _ (by decide)⟩ = T :=
    Fin.ext (by show T.val / 2048 * 2048 + T.val % 2048 = T.val; omega)
  have h := v44_apply x0 x1 x2 x3 x4 x5 x6 x7 x8 (batch T) ⟨T.val % 2048, Nat.mod_lt _ (by decide)⟩ n
  rw [hT] at h
  rw [← h]
  pointwise [val_main_v45]
  rfl

end Cert.OutRefIdeal.Hand

end
-- ==== Proof.Out.Equal.lean ====
/-
  The output projection's call and its reference leave the same array: the reference's sum over the 1024 concatenated
  columns is the kernel's two sums over 512.
-/
module

public import proofs.«01_k».proof.Proof.Out.Value
public import proofs.«01_k».proof.Proof.Out.RefValue

@[expose] public section

set_option maxRecDepth 16384

noncomputable section

namespace Cert.OutIdeal.Hand

open Cert.OutIdeal Idealize.ShloMosaic Idealize.ShloMosaic.TcCoe Idealize.ShloMosaic.Pointwise Idealize.SL.Sem

theorem sum_halves (f : Fin 1024 → EReal) : ∑ j, f j = (∑ j, f (lo j)) + ∑ j, f (hi j) :=
  Fin.sum_univ_add (a := 512) (b := 512) f

theorem proj_eq (x4 x5 x6 x7 : FVec Ideal S32768x512 .bf16) (x8 : FVec Ideal S4x1024x1024 .f32) (T : Fin 32768) (n : Fin 1024) :
    ∑ j, Cert.OutRefIdeal.Hand.cat x4 x5 x6 x7 T j * x8 (ix3 0 j n)
      = proj (fun j => x4 (ix2 T j)) (fun j => x5 (ix2 T j)) (fun j => x6 (ix2 T j)) (fun j => x7 (ix2 T j)) (fun j k => x8 (ix3 0 j k)) n := by
  rw [sum_halves]
  unfold proj
  rfl

variable (m : (ℓ : Loc nD τ sig) → Buf (Elt Ideal) ℓ)

theorem results (c : Dev nD) :
    Cert.OutRefIdeal.Read.val_main_v45 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) = G m c := by
  refine funext fun i => ?_
  obtain ⟨T, n, rfl⟩ : ∃ (T : Fin 32768) (n : Fin 1024), i = ix2 T n := ⟨i 0, i 1, eq_ix2 i⟩
  rw [Cert.OutRefIdeal.Hand.v45_apply]
  unfold Cert.OutRefIdeal.Hand.rowZ
  rw [show (fun k => ∑ j, Cert.OutRefIdeal.Hand.cat (m ((c : Thread nD τ).loc main_arg4)) (m ((c : Thread nD τ).loc main_arg5))
      (m ((c : Thread nD τ).loc main_arg6)) (m ((c : Thread nD τ).loc main_arg7)) T j
      * (m ((c : Thread nD τ).loc main_arg8) : FVec Ideal S4x1024x1024 .f32) (ix3 0 j k)) = _ from funext fun k => proj_eq _ _ _ _ _ T k]
  rfl

end Cert.OutIdeal.Hand

end
-- ==== Proof.In.Table.lean ====
/-
  The order of the input projection's columns. The host lays the 2328 columns of the weights out over 2560: the queries and
  the compression's keys and values as they are, the selected and windowed keys and values head by head, the gates branch by
  branch and padded with zeros to 128 per head, the convolution's columns last.
-/
module

public import proofs.«01_k».proof.Proof.Gen.InIdeal.Value
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.InIdeal.Hand

open Cert.InIdeal Cert.InIdeal.Gen Idealize.ShloMosaic Idealize.ShloMosaic.TcCoe Idealize.ShloMosaic.Pointwise Idealize.SL.Sem

/-- The column of the weights laid out at column `n`; at a padded column, column 0. -/
def src (n : ℕ) : ℕ :=
  if n < 768 then n
  else if n < 1280 then 768 + (n - 768) / 256 * 256 + (n - 768) % 128 / 64 * 128 + (n - 768) % 256 / 128 * 64 + (n - 768) % 64
  else if n < 1536 then
    if (n - 1280) % 128 < 12 then 1280 + (n - 1280) / 128 * 12 + (n - 1280) % 128 % 4 * 3 + (n - 1280) % 128 / 4 else 0
  else n - 232

/-- A padded column. -/
def padded (n : ℕ) : Bool := decide (1280 ≤ n ∧ n < 1536 ∧ 12 ≤ (n - 1280) % 128)

theorem src_lt (n : Fin 2560) : src n < 2328 := by
  have := n.isLt
  unfold src
  split_ifs <;> omega

/-- The program's table of columns is that order. -/
theorem lit1_eq : ∀ n : Fin 2560, lit1 n = BitVec.ofNat 32 (src n) := by decide +kernel

/-- Its mask marks the columns that are not padded. -/
theorem lit0_eq : ∀ n : Fin 2560, lit0 n = bif padded n then 0#1 else 1#1 := by decide +kernel

/-- The columns gathered: at column `n` the operand's column `k` that the index array names. -/
theorem gather_apply (x : FVec Ideal S4x1024x2328 .f32) (idx : IVec S2560x1 32) (l : Fin 4) (r : Fin 1024) (n : Fin 2560) (k : Fin 2328)
    (hk : idx (ix2 n 0) = BitVec.ofNat 32 k.val) :
    Host.gather gather_S4x1024x2328_S2560x1_S4x1024x2560_01_2_n_n_2_1_410241 x idx (ix3 l r n) = x (ix3 l r k) := by
  unfold Host.gather
  refine congrArg x (funext fun a => Fin.ext ?_)
  have hv : (BitVec.ofNat 32 k.val).toInt.toNat = k.val := by
    have := k.isLt
    rw [BitVec.toInt_eq_toNat_of_lt (by rw [BitVec.toNat_ofNat]; omega), BitVec.toNat_ofNat]
    omega
  let d := gather_S4x1024x2328_S2560x1_S4x1024x2560_01_2_n_n_2_1_410241
  show d.start (ix3 l r n) idx a + d.batchCoord (ix3 l r n) a + d.offCoord (ix3 l r n) a = _
  rw [GatherDims.batchCoord_eq_zero _ _ _ (show a ∉ d.operandBatchingDims from List.not_mem_nil)]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · unfold GatherDims.start GatherDims.offCoord
    rw [dif_neg (show (0 : Fin 3) ∉ d.startIndexMap from show (0 : Fin 3) ∉ ([2] : List (Fin 3)) by decide),
      dif_pos (show (0 : Fin 3) ∈ d.sKept from (GatherDims.mem_sKept d _).mpr ⟨show (0 : Fin 3) ∉ ([2] : List (Fin 3)) by decide, List.not_mem_nil⟩)]
    exact Nat.zero_add _
  · unfold GatherDims.start GatherDims.offCoord
    rw [dif_neg (show (1 : Fin 3) ∉ d.startIndexMap from show (1 : Fin 3) ∉ ([2] : List (Fin 3)) by decide),
      dif_pos (show (1 : Fin 3) ∈ d.sKept from (GatherDims.mem_sKept d _).mpr ⟨show (1 : Fin 3) ∉ ([2] : List (Fin 3)) by decide, List.not_mem_nil⟩)]
    exact Nat.zero_add _
  · rw [GatherDims.offCoord_eq_zero _ _ _ (fun h => ((GatherDims.mem_sKept _ _).mp h).1 (List.mem_singleton.mpr rfl))]
    unfold GatherDims.start
    rw [dif_pos (show (2 : Fin 3) ∈ d.startIndexMap from List.mem_singleton.mpr rfl)]
    have hsi : d.siIdx (ix3 l r n) ⟨List.idxOf (2 : Fin 3) d.startIndexMap,
        List.idxOf_lt_length_iff.2 (List.mem_singleton.mpr rfl)⟩ = ix2 n 0 := by
      funext b
      refine Fin.ext ?_
      match b with
      | ⟨0, _⟩ => rfl
      | ⟨1, _⟩ => rfl
    rw [hsi, hk, hv]
    show min k.val 2327 + 0 + 0 = k.val
    omega

theorem position (n : Fin 2560) : S2560.rowMajor (ix1 n) = n := Fin.ext (Shape.rowMajor_val_one _)

/-- The column indices the host gathers by. -/
def columns : IVec S2560x1 32 :=
  broadcastInDim S2560x1 ![0] bcast_S2560_S2560x1_0 (select (constantI S2560 1 0#1)
    (addi (fun i => lit1 (S2560.rowMajor i)) (broadcastInDim S2560 ![] bcast_S_S2560 (constantI S_ 32 2328#32)))
    (fun i => lit1 (S2560.rowMajor i)))

theorem columns_apply (n : Fin 2560) : columns (ix2 n 0) = BitVec.ofNat 32 (src n) := by
  have h : columns (ix2 n 0) = lit1 (S2560.rowMajor (ix1 n)) := by
    pointwise [columns]
  rw [h, position, lit1_eq]

/-- The weights as the host leaves them: the columns gathered, the padded ones zero, the first of the four layers. -/
def weights (x : FVec Ideal S4x1024x2328 .f32) : FVec Ideal S1024x2560 .bf16 :=
  shapeCast S1024x2560 (extractStridedSlice S1x1024x2560 ![0, 0, 0] (truncf .bf16
    (select (broadcastInDim S4x1024x2560 ![0, 1, 2] bcast_S1x1x2560_S4x1024x2560_0_1_2
        (broadcastInDim S1x1x2560 ![2] bcast_S2560_S1x1x2560_2 (fun i => lit0 (S2560.rowMajor i))))
      (Host.gather gather_S4x1024x2328_S2560x1_S4x1024x2560_01_2_n_n_2_1_410241 x columns)
      (broadcastInDim S4x1024x2560 ![] bcast_S_S4x1024x2560 (id (constant S_ .f32 0x00000000#32)))) bitsLt_bf16_f32)
    slices_S4x1024x2560_S1x1024x2560_0_0_0) shapeCasts_S1x1024x2560_S1024x2560

/-- The weight in row `k` of the laid-out column `n`. -/
def wcol (x : FVec Ideal S4x1024x2328 .f32) (k : Fin 1024) (n : Fin 2560) : EReal :=
  bif padded n then 0 else x (ix3 0 k ⟨src n, src_lt n⟩)

theorem weights_apply (x : FVec Ideal S4x1024x2328 .f32) (k : Fin 1024) (n : Fin 2560) : weights x (ix2 k n) = wcol x k n := by
  pointwise [weights]
  rw [position, lit0_eq, gather_apply x columns 0 k n ⟨src n, src_lt n⟩ (columns_apply n)]
  unfold wcol
  cases padded n
  · rfl
  · exact Ideal.ofBits_zero_f32

variable (m : (ℓ : Loc nD τ sig) → Buf (Elt Ideal) ℓ)

theorem V_weights (c : Dev nD) : V m c main_v9 = weights (m ((c : Thread nD τ).loc main_arg3)) := by
  unfold V hostOps0 hostOps0_1 hostOps0_2
  simp only [List.flatten_cons, List.flatten_nil, List.append_nil, List.cons_append, List.nil_append]
  after_results
  rfl

end Cert.InIdeal.Hand

end
-- ==== Proof.In.Value.lean ====
/-
  The input projection's call: what its blocks hold at a grid point, what its body computes from them, and the five arrays
  it leaves. Point `t` holds the 512 tokens from `512 * t` on; each result is a span of the laid-out columns.
-/
module

public import proofs.«01_k».proof.Proof.In.Table
public import proofs.«01_k».proof.Proof.Moe.Row

@[expose] public section

set_option maxRecDepth 16384

noncomputable section

namespace Cert.InIdeal.Hand

open Cert.InIdeal Cert.InIdeal.Gen Cert.InIdeal.Value Idealize.ShloMosaic Idealize.ShloMosaic.TcCoe
open Idealize.ShloMosaic.Pointwise Idealize.SL.Sem

variable (m : (ℓ : Loc nD τ sig) → Buf (Elt Ideal) ℓ)

/-- The windows' block indices at every point. -/
theorem index (t : Fin cfg0.N) :
    (win0_0.index t = ![t.val, 0] ∧ win0_1.index t = ![t.val / 4, 0, 0] ∧ win0_2.index t = ![t.val / 4, 0, 0]
      ∧ win0_3.index t = ![0, 0])
    ∧ (win0_4.index t = ![t.val, 0] ∧ win0_5.index t = ![t.val, 0] ∧ win0_6.index t = ![t.val, 0] ∧ win0_7.index t = ![t.val, 0]
      ∧ win0_8.index t = ![t.val, 0]) := by
  revert t; decide +kernel

theorem lt_N (t : Fin cfg0.N) : t.val < 64 := t.isLt

/-- The token `r` of the block of point `t`. -/
def tok (t : Fin cfg0.N) (r : Fin 512) : Fin 32768 := ⟨512 * t.val + r, by have := lt_N t; omega⟩

/-- The batch of token `T`. -/
def batch (T : Fin 32768) : Fin 16 := ⟨T / 2048, by omega⟩

theorem iblk0 (c : Dev nD) (t : Fin cfg0.N) (r : Fin 512) (k : Fin 1024) :
    iblk m c 0 t (ix2 r k) = m ((c : Thread nD τ).loc main_arg0) (ix2 (tok t r) k) := by
  obtain ⟨⟨h0, h1, h2, h3⟩, h4, h5, h6, h7, h8⟩ := index t
  blk_ext [iblk, V, h0, tok]

theorem iblk1 (c : Dev nD) (t : Fin cfg0.N) (r : Fin 512) (k : Fin 1024) :
    iblk m c 1 t (ix3 0 0 k) = m ((c : Thread nD τ).loc main_arg1) (ix3 (batch (tok t r)) 0 k) := by
  obtain ⟨⟨h0, h1, h2, h3⟩, h4, h5, h6, h7, h8⟩ := index t
  blk_ext [iblk, V, h1, batch, tok]

theorem iblk2 (c : Dev nD) (t : Fin cfg0.N) (r : Fin 512) (k : Fin 1024) :
    iblk m c 2 t (ix3 0 0 k) = m ((c : Thread nD τ).loc main_arg2) (ix3 (batch (tok t r)) 0 k) := by
  obtain ⟨⟨h0, h1, h2, h3⟩, h4, h5, h6, h7, h8⟩ := index t
  blk_ext [iblk, V, h2, batch, tok]

theorem iblk3 (c : Dev nD) (t : Fin cfg0.N) (k : Fin 1024) (n : Fin 2560) :
    iblk m c 3 t (ix2 k n) = wcol (m ((c : Thread nD τ).loc main_arg3)) k n := by
  obtain ⟨⟨h0, h1, h2, h3⟩, h4, h5, h6, h7, h8⟩ := index t
  have h : iblk m c 3 t (ix2 k n) = V m c main_v9 (ix2 k n) := by blk_ext [iblk, h3]
  rw [h, V_weights]
  exact weights_apply _ k n

/-- The product of a token's modulated row with the laid-out column `n`. -/
def row (x0 : FVec Ideal S32768x1024 .f32) (x1 x2 : FVec Ideal S16x1x1024 .f32) (x3 : FVec Ideal S4x1024x2328 .f32)
    (T : Fin 32768) (n : Fin 2560) : EReal :=
  ∑ k, Cert.Row.hid (fun k => x0 (ix2 T k)) (fun k => x1 (ix3 (batch T) 0 k)) (fun k => x2 (ix3 (batch T) 0 k)) k * wcol x3 k n

/-- The same of the program's arrays. -/
def rowm (c : Dev nD) (T : Fin 32768) (n : Fin 2560) : EReal :=
  row (m ((c : Thread nD τ).loc main_arg0)) (m ((c : Thread nD τ).loc main_arg1)) (m ((c : Thread nD τ).loc main_arg2))
    (m ((c : Thread nD τ).loc main_arg3)) T n

/-- The queries, scaled. -/
def G4 (c : Dev nD) : FVec Ideal S32768x512 .bf16 := fun i =>
  rowm m c (i 0) ⟨(i 1).val, by have := (i 1).isLt; exact Nat.lt_of_lt_of_le this (by decide)⟩ * Ideal.ofBits .f32 0x3E000000#32
/-- The compression's keys and values. -/
def G5 (c : Dev nD) : FVec Ideal S32768x256 .f32 := fun i =>
  rowm m c (i 0) ⟨512 + (i 1).val, by have : (i 1).val < 256 := (i 1).isLt; omega⟩
/-- The selected and windowed keys and values. -/
def G6 (c : Dev nD) : FVec Ideal S32768x512 .bf16 := fun i =>
  rowm m c (i 0) ⟨768 + (i 1).val, by have : (i 1).val < 512 := (i 1).isLt; omega⟩
/-- The gates' logits. -/
def G7 (c : Dev nD) : FVec Ideal S32768x256 .f32 := fun i =>
  rowm m c (i 0) ⟨1280 + (i 1).val, by have : (i 1).val < 256 := (i 1).isLt; omega⟩
/-- The convolution's input. -/
def G8 (c : Dev nD) : FVec Ideal S32768x1024 .f32 := fun i =>
  rowm m c (i 0) ⟨1536 + (i 1).val, by have : (i 1).val < 1024 := (i 1).isLt; omega⟩

section
variable (v0 : Vec Ideal S512x1024 .f32) (v1 v7 : Vec Ideal S1x1x1024 .f32)

theorem pay3_apply (r : Fin 512) (k : Fin 1024) : k0_pay3 v0 v1 v7 (ix2 r k)
    = Cert.Row.hid (fun k => v0 (ix2 r k)) (fun k => v1 (ix3 0 0 k)) (fun k => v7 (ix3 0 0 k)) k := by
  pointwise [k0_pay3]
  rfl

theorem pay4_apply (w : Vec Ideal S1024x512 .bf16) (r n : Fin 512) :
    k0_pay4 v0 v1 v7 w (ix2 r n) = (∑ k, k0_pay3 v0 v1 v7 (ix2 r k) * w (ix2 k n)) * Ideal.ofBits .f32 0x3E000000#32 := by
  pointwise [k0_pay4]

theorem pay5_apply (w : Vec Ideal S1024x256 .bf16) (r : Fin 512) (n : Fin 256) :
    k0_pay5 v0 v1 v7 w (ix2 r n) = ∑ k, k0_pay3 v0 v1 v7 (ix2 r k) * w (ix2 k n) := by
  pointwise [k0_pay5]

theorem pay6_apply (w : Vec Ideal S1024x512 .bf16) (r n : Fin 512) :
    k0_pay6 v0 v1 v7 w (ix2 r n) = ∑ k, k0_pay3 v0 v1 v7 (ix2 r k) * w (ix2 k n) := by
  pointwise [k0_pay6]

theorem pay1_apply (h : FVec Ideal S512x1024 .bf16) (w : Vec Ideal S1024x256 .bf16) (r : Fin 512) (n : Fin 256) :
    k0_pay1 h w (ix2 r n) = ∑ k, h (ix2 r k) * w (ix2 k n) := by
  pointwise [k0_pay1]

theorem pay2_apply (h : FVec Ideal S512x1024 .bf16) (w : Vec Ideal S1024x1024 .bf16) (r : Fin 512) (n : Fin 1024) :
    k0_pay2 h w (ix2 r n) = ∑ k, h (ix2 r k) * w (ix2 k n) := by
  pointwise [k0_pay2]

end

/-- A span of the weights' columns, read: the columns from `o` on. -/
theorem ld_apply (c : Dev nD) (t : Fin cfg0.N) (o : ℕ) {w : ℕ} (inb : ∀ a, ![0, o] a + (![1024, w] : Fin 2 → ℕ) a ≤ S1024x2560.size a)
    (k : Fin 1024) (n : Fin w) (hn : o + n.val < 2560) :
    View.ld (iblk m c 3 t) (Rect.unit (s := S1024x2560) ![0, o] ![1024, w] inb) (ix2 k n)
      = wcol (m ((c : Thread nD τ).loc main_arg3)) k ⟨o + n.val, hn⟩ :=
  (View.ld_unit_apply_of (iblk m c 3 t) _ _ _ _ (ix2 k ⟨o + n.val, hn⟩) fun a => by
    fin_cases a
    · exact (Nat.zero_add _).symm
    · rfl).trans (iblk3 m c t k _)

/-- The modulated rows of a block are the tokens'. -/
theorem hid_blk (c : Dev nD) (t : Fin cfg0.N) (r : Fin 512) (k : Fin 1024) :
    k0_pay3 (iblk m c 0 t) (iblk m c 1 t) (iblk m c 2 t) (ix2 r k)
      = Cert.Row.hid (fun k => m ((c : Thread nD τ).loc main_arg0) (ix2 (tok t r) k))
        (fun k => m ((c : Thread nD τ).loc main_arg1) (ix3 (batch (tok t r)) 0 k))
        (fun k => m ((c : Thread nD τ).loc main_arg2) (ix3 (batch (tok t r)) 0 k)) k := by
  rw [pay3_apply]
  simp only [iblk0, iblk1 m c t r, iblk2 m c t r]

/-- A block's product with a span of the weights' columns. -/
theorem span (c : Dev nD) (t : Fin cfg0.N) (r : Fin 512) (o : ℕ) {w : ℕ}
    (inb : ∀ a, ![0, o] a + (![1024, w] : Fin 2 → ℕ) a ≤ S1024x2560.size a) (n : Fin w) (hn : o + n.val < 2560) :
    (∑ k, (k0_pay3 (iblk m c 0 t) (iblk m c 1 t) (iblk m c 2 t) (ix2 r k) : EReal)
      * (View.ld (iblk m c 3 t) (Rect.unit (s := S1024x2560) ![0, o] ![1024, w] inb) (ix2 k n) : EReal))
      = rowm m c (tok t r) ⟨o + n.val, hn⟩ := by
  unfold rowm row
  refine Finset.sum_congr rfl fun k _ => ?_
  rw [ld_apply m c t o inb k n hn, hid_blk]

/-- The rows the body keeps for its last two products are those of the first three. -/
theorem pay7_eq (x0 : Vec Ideal S512x1024 .f32) (x1 x2 : Vec Ideal S1x1x1024 .f32) (x3 : Vec Ideal S1024x2560 .bf16) :
    k0_pay7 x0 x1 x2 x3 = k0_pay3 x0 x1 x2 := by
  have e0 : View.ld x0 r0_0 = x0 := funext fun i => View.ld_unit_apply_of x0 _ _ _ i i fun a => by fin_cases a <;> simp
  have e1 : View.ld x1 r0_1 = x1 := funext fun i => View.ld_unit_apply_of x1 _ _ _ i i fun a => by fin_cases a <;> simp
  have e2 : View.ld x2 r0_1 = x2 := funext fun i => View.ld_unit_apply_of x2 _ _ _ i i fun a => by fin_cases a <;> simp
  unfold k0_pay7
  rw [e0, e1, e2]

theorem after4 (c : Dev nD) (t : Fin cfg0.N) (r n : Fin 512) :
    out0_4 (iblk m c 0 t) (iblk m c 1 t) (iblk m c 2 t) (iblk m c 3 t) (ix2 r n) = G4 m c (ix2 (tok t r) n) := by
  frame_out
  have hn : 0 + n.val < 2560 := by omega
  rw [pay4_apply]
  refine congrArg (· * Ideal.ofBits .f32 0x3E000000#32) ((span (w := 512) m c t r 0 _ n hn).trans ?_)
  exact congrArg _ (Fin.ext (Nat.zero_add _))

theorem after5 (c : Dev nD) (t : Fin cfg0.N) (r : Fin 512) (n : Fin 256) :
    out0_5 (iblk m c 0 t) (iblk m c 1 t) (iblk m c 2 t) (iblk m c 3 t) (ix2 r n) = G5 m c (ix2 (tok t r) n) := by
  frame_out
  have hn : 512 + n.val < 2560 := by omega
  rw [pay5_apply]
  exact span (w := 256) m c t r 512 _ n hn

theorem after6 (c : Dev nD) (t : Fin cfg0.N) (r n : Fin 512) :
    out0_6 (iblk m c 0 t) (iblk m c 1 t) (iblk m c 2 t) (iblk m c 3 t) (ix2 r n) = G6 m c (ix2 (tok t r) n) := by
  frame_out
  have hn : 768 + n.val < 2560 := by omega
  rw [pay6_apply]
  exact span (w := 512) m c t r 768 _ n hn

theorem after7 (c : Dev nD) (t : Fin cfg0.N) (r : Fin 512) (n : Fin 256) :
    out0_7 (iblk m c 0 t) (iblk m c 1 t) (iblk m c 2 t) (iblk m c 3 t) (ix2 r n) = G7 m c (ix2 (tok t r) n) := by
  frame_out
  have hn : 1280 + n.val < 2560 := by omega
  rw [pay7_eq, pay1_apply]
  exact span (w := 256) m c t r 1280 _ n hn

theorem after8 (c : Dev nD) (t : Fin cfg0.N) (r : Fin 512) (n : Fin 1024) :
    out0_8 (iblk m c 0 t) (iblk m c 1 t) (iblk m c 2 t) (iblk m c 3 t) (ix2 r n) = G8 m c (ix2 (tok t r) n) := by
  frame_out
  have hn : 1536 + n.val < 2560 := by omega
  rw [pay7_eq, pay2_apply]
  exact span (w := 1024) m c t r 1536 _ n hn

theorem final4 (c : Dev nD) : (dats m 0 c).arrAt 4 cfg0.N = G4 m c := by
  refine (dats m 0 c).arrAt_eq_of_covers 4 _ (by decide +kernel) fun t hf y => ?_
  obtain ⟨⟨h0, h1, h2, h3⟩, h4, h5, h6, h7, h8⟩ := index t
  obtain ⟨r, n, rfl⟩ : ∃ (r n : Fin 512), y = ix2 r n := ⟨y 0, y 1, eq_ix2 y⟩
  have he : ((cfg0.win 4).blk t).view.emb (ix2 r n) = ix2 (tok t r) n := by blk_ext [h4, tok]
  rw [he]
  blk_simp
  rw [after0_4]
  exact after4 m c t r n

theorem final5 (c : Dev nD) : (dats m 0 c).arrAt 5 cfg0.N = G5 m c := by
  refine (dats m 0 c).arrAt_eq_of_covers 5 _ (by decide +kernel) fun t hf y => ?_
  obtain ⟨⟨h0, h1, h2, h3⟩, h4, h5, h6, h7, h8⟩ := index t
  obtain ⟨r, n, rfl⟩ : ∃ (r : Fin 512) (n : Fin 256), y = ix2 r n := ⟨y 0, y 1, eq_ix2 y⟩
  have he : ((cfg0.win 5).blk t).view.emb (ix2 r n) = ix2 (tok t r) n := by blk_ext [h5, tok]
  rw [he]
  blk_simp
  rw [after0_5]
  exact after5 m c t r n

theorem final6 (c : Dev nD) : (dats m 0 c).arrAt 6 cfg0.N = G6 m c := by
  refine (dats m 0 c).arrAt_eq_of_covers 6 _ (by decide +kernel) fun t hf y => ?_
  obtain ⟨⟨h0, h1, h2, h3⟩, h4, h5, h6, h7, h8⟩ := index t
  obtain ⟨r, n, rfl⟩ : ∃ (r n : Fin 512), y = ix2 r n := ⟨y 0, y 1, eq_ix2 y⟩
  have he : ((cfg0.win 6).blk t).view.emb (ix2 r n) = ix2 (tok t r) n := by blk_ext [h6, tok]
  rw [he]
  blk_simp
  rw [after0_6]
  exact after6 m c t r n

theorem final7 (c : Dev nD) : (dats m 0 c).arrAt 7 cfg0.N = G7 m c := by
  refine (dats m 0 c).arrAt_eq_of_covers 7 _ (by decide +kernel) fun t hf y => ?_
  obtain ⟨⟨h0, h1, h2, h3⟩, h4, h5, h6, h7, h8⟩ := index t
  obtain ⟨r, n, rfl⟩ : ∃ (r : Fin 512) (n : Fin 256), y = ix2 r n := ⟨y 0, y 1, eq_ix2 y⟩
  have he : ((cfg0.win 7).blk t).view.emb (ix2 r n) = ix2 (tok t r) n := by blk_ext [h7, tok]
  rw [he]
  blk_simp
  rw [after0_7]
  exact after7 m c t r n

theorem final8 (c : Dev nD) : (dats m 0 c).arrAt 8 cfg0.N = G8 m c := by
  refine (dats m 0 c).arrAt_eq_of_covers 8 _ (by decide +kernel) fun t hf y => ?_
  obtain ⟨⟨h0, h1, h2, h3⟩, h4, h5, h6, h7, h8⟩ := index t
  obtain ⟨r, n, rfl⟩ : ∃ (r : Fin 512) (n : Fin 1024), y = ix2 r n := ⟨y 0, y 1, eq_ix2 y⟩
  have he : ((cfg0.win 8).blk t).view.emb (ix2 r n) = ix2 (tok t r) n := by blk_ext [h8, tok]
  rw [he]
  blk_simp
  rw [after0_8]
  exact after8 m c t r n

end Cert.InIdeal.Hand

end
-- ==== Proof.In.RefValue.lean ====
/-
  The reference of the input projection's call, read at a token.
-/
module

public import proofs.«01_k».proof.Proof.Gen.InRefIdeal.Read
public import proofs.«01_k».proof.Proof.Moe.Row
public import Idealize.ShloMosaic.Lib.Pointwise

@[expose] public section

set_option maxRecDepth 16384

noncomputable section

namespace Cert.InRefIdeal.Hand

open Cert.InRefIdeal Cert.InRefIdeal.Read Idealize.ShloMosaic Idealize.ShloMosaic.Pointwise Idealize.SL.Sem

/-- The batch of token `T`. -/
def batch (T : Fin 32768) : Fin 16 := ⟨T / 2048, by omega⟩

/-- Token `s` of batch `b`. -/
def tk (b : Fin 16) (s : Fin 2048) : Fin 32768 := ⟨b * 2048 + s, by omega⟩

theorem batch_tk (b : Fin 16) (s : Fin 2048) : batch (tk b s) = b :=
  Fin.ext (by show (b.val * 2048 + s.val) / 2048 = b.val; omega)

variable (x0 : FVec Ideal S32768x1024 .f32) (x1 x2 : FVec Ideal S16x1x1024 .f32) (x3 : FVec Ideal S4x1024x2328 .f32)

/-- The modulated row of token `T`. -/
def hid (T : Fin 32768) : Fin 1024 → EReal :=
  Cert.Row.hid (fun k => x0 (ix2 T k)) (fun k => x1 (ix3 (batch T) 0 k)) (fun k => x2 (ix3 (batch T) 0 k))

/-- Its product with column `j` of the weights. -/
def prod (T : Fin 32768) (j : Fin 2328) : EReal := ∑ k, hid x0 x1 x2 T k * x3 (ix3 0 k j)

theorem v6_apply (b : Fin 16) (s : Fin 2048) (k : Fin 1024) :
    val_main_v6 (F := Ideal) x0 x1 x2 (ix3 b s k) = hid x0 x1 x2 (tk b s) k := by
  pointwise [val_main_v6, val_main_v5, val_main_v4, val_main_v3, val_main_v2, val_main_v1, val_main_v0, val_main_cst]
  unfold hid
  rw [batch_tk]
  rfl

theorem v7_apply (T : Fin 32768) (k : Fin 1024) : val_main_v7 (F := Ideal) x0 x1 x2 (ix2 T k) = hid x0 x1 x2 T k := by
  have hT : tk (batch T) ⟨T.val % 2048, Nat.mod_lt _ (by decide)⟩ = T :=
    Fin.ext (by show T.val / 2048 * 2048 + T.val % 2048 = T.val; omega)
  have h := v6_apply x0 x1 x2 (batch T) ⟨T.val % 2048, Nat.mod_lt _ (by decide)⟩ k
  rw [hT] at h
  rw [← h]
  pointwise [val_main_v7]
  rfl

theorem v10_apply (T : Fin 32768) (j : Fin 2328) : val_main_v10 (F := Ideal) x0 x1 x2 x3 (ix2 T j) = prod x0 x1 x2 x3 T j := by
  pointwise [val_main_v10, val_main_v9, val_main_v8]
  simp only [v7_apply]
  rfl

theorem v35_apply (T : Fin 32768) (n : Fin 512) :
    val_main_v35 (F := Ideal) x0 x1 x2 x3 (ix2 T n) = prod x0 x1 x2 x3 T ⟨n, by omega⟩ * Ideal.ofBits .f32 0x3E000000#32 := by
  pointwise [val_main_v35, val_main_v34, val_main_v33, val_main_cst_1, val_main_v11]
  rw [v10_apply]

theorem v36_apply (T : Fin 32768) (n : Fin 256) :
    val_main_v36 (F := Ideal) x0 x1 x2 x3 (ix2 T n) = prod x0 x1 x2 x3 T ⟨512 + n, by omega⟩ := by
  pointwise [val_main_v36, val_main_v12, val_main_v13]
  simp only [v10_apply]
  by_cases h : n.val < 128
  · rw [dif_pos h]
  · rw [dif_neg h]
    exact congrArg _ (Fin.ext (by simp only []; omega))

theorem v38_apply (T : Fin 32768) (n : Fin 512) :
    val_main_v38 (F := Ideal) x0 x1 x2 x3 (ix2 T n) = prod x0 x1 x2 x3 T
      ⟨768 + n / 256 * 256 + n % 128 / 64 * 128 + n % 256 / 128 * 64 + n % 64, by omega⟩ := by
  pointwise [val_main_v38, val_main_v37, val_main_v27, val_main_v26, val_main_v25, val_main_v24, val_main_v20, val_main_v21,
    val_main_v22, val_main_v23, val_main_v14, val_main_v15, val_main_v16, val_main_v17]
  simp only [v10_apply]
  split_ifs <;> exact congrArg _ (Fin.ext (by simp only []; omega))

theorem v39_apply (T : Fin 32768) (n : Fin 256) :
    val_main_v39 (F := Ideal) x0 x1 x2 x3 (ix2 T n) = if h : n.val % 128 < 12 then prod x0 x1 x2 x3 T
      ⟨1280 + n / 128 * 12 + n % 128 % 4 * 3 + n % 128 / 4, by omega⟩ else 0 := by
  pointwise [val_main_v39, val_main_v32, val_main_v31, val_main_cst_0, val_main_v30, val_main_v29, val_main_v28, val_main_v18]
  simp only [v10_apply]
  split_ifs
  · exact congrArg _ (Fin.ext (by simp only []; omega))
  · rfl

theorem v19_apply (T : Fin 32768) (n : Fin 1024) :
    val_main_v19 (F := Ideal) x0 x1 x2 x3 (ix2 T n) = prod x0 x1 x2 x3 T ⟨1304 + n, by omega⟩ := by
  pointwise [val_main_v19]
  rw [v10_apply]

end Cert.InRefIdeal.Hand

end
-- ==== Proof.In.Equal.lean ====
/-
  The input projection's call and its reference leave the same five arrays: the laid-out columns are the reference's
  splits, regrouped head by head.
-/
module

public import proofs.«01_k».proof.Proof.In.Value
public import proofs.«01_k».proof.Proof.In.RefValue

@[expose] public section

set_option maxRecDepth 16384

noncomputable section

namespace Cert.InIdeal.Hand

open Cert.InIdeal Idealize.ShloMosaic Idealize.ShloMosaic.TcCoe Idealize.ShloMosaic.Pointwise Idealize.SL.Sem

section
variable (x0 : FVec Ideal S32768x1024 .f32) (x1 x2 : FVec Ideal S16x1x1024 .f32) (x3 : FVec Ideal S4x1024x2328 .f32)

/-- At a column that is not padded, the kernel's product is the reference's with the column laid out there. -/
theorem row_eq (T : Fin 32768) (n : Fin 2560) (j : Fin 2328) (hp : padded n = false) (hj : src n = j.val) :
    row x0 x1 x2 x3 T n = Cert.InRefIdeal.Hand.prod x0 x1 x2 x3 T j := by
  obtain rfl : (⟨src n, src_lt n⟩ : Fin 2328) = j := Fin.ext hj
  unfold row
  refine Finset.sum_congr rfl fun k _ => ?_
  unfold wcol
  rw [hp]
  rfl

/-- At a padded column the product is zero. -/
theorem row_padded (T : Fin 32768) (n : Fin 2560) (hp : padded n = true) : row x0 x1 x2 x3 T n = 0 := by
  unfold row
  refine Finset.sum_eq_zero fun k _ => ?_
  unfold wcol
  rw [hp]
  exact mul_zero _

end

variable (m : (ℓ : Loc nD τ sig) → Buf (Elt Ideal) ℓ)

theorem results4 (c : Dev nD) :
    Cert.InRefIdeal.Read.val_main_v35 (F := Ideal) (m ((c : Thread nD τ).loc main_arg0)) (m ((c : Thread nD τ).loc main_arg1))
        (m ((c : Thread nD τ).loc main_arg2)) (m ((c : Thread nD τ).loc main_arg3)) = G4 m c := by
  refine funext fun i => ?_
  obtain ⟨T, n, rfl⟩ : ∃ (T : Fin 32768) (n : Fin 512), i = ix2 T n := ⟨i 0, i 1, eq_ix2 i⟩
  have := n.isLt
  rw [Cert.InRefIdeal.Hand.v35_apply]
  refine congrArg (· * Ideal.ofBits .f32 0x3E000000#32) (row_eq _ _ _ _ T _ _ ?_ ?_).symm
  · simp only [padded, decide_eq_false_iff_not]; show ¬ (1280 ≤ n.val ∧ _); omega
  · show src n.val = n.val
    unfold src; split_ifs <;> omega

theorem results5 (c : Dev nD) :
    Cert.InRefIdeal.Read.val_main_v36 (F := Ideal) (m ((c : Thread nD τ).loc main_arg0)) (m ((c : Thread nD τ).loc main_arg1))
        (m ((c : Thread nD τ).loc main_arg2)) (m ((c : Thread nD τ).loc main_arg3)) = G5 m c := by
  refine funext fun i => ?_
  obtain ⟨T, n, rfl⟩ : ∃ (T : Fin 32768) (n : Fin 256), i = ix2 T n := ⟨i 0, i 1, eq_ix2 i⟩
  have := n.isLt
  rw [Cert.InRefIdeal.Hand.v36_apply]
  refine (row_eq _ _ _ _ T _ _ ?_ ?_).symm
  · simp only [padded, decide_eq_false_iff_not]; show ¬ (1280 ≤ 512 + n.val ∧ _); omega
  · show src (512 + n.val) = 512 + n.val
    unfold src; split_ifs <;> omega

theorem results6 (c : Dev nD) :
    Cert.InRefIdeal.Read.val_main_v38 (F := Ideal) (m ((c : Thread nD τ).loc main_arg0)) (m ((c : Thread nD τ).loc main_arg1))
        (m ((c : Thread nD τ).loc main_arg2)) (m ((c : Thread nD τ).loc main_arg3)) = G6 m c := by
  refine funext fun i => ?_
  obtain ⟨T, n, rfl⟩ : ∃ (T : Fin 32768) (n : Fin 512), i = ix2 T n := ⟨i 0, i 1, eq_ix2 i⟩
  have := n.isLt
  rw [Cert.InRefIdeal.Hand.v38_apply]
  refine (row_eq _ _ _ _ T _ _ ?_ ?_).symm
  · simp only [padded, decide_eq_false_iff_not]; show ¬ (1280 ≤ 768 + n.val ∧ _); omega
  · show src (768 + n.val) = 768 + n.val / 256 * 256 + n.val % 128 / 64 * 128 + n.val % 256 / 128 * 64 + n.val % 64
    have e : 768 + n.val - 768 = n.val := by omega
    unfold src
    rw [if_neg (by omega), if_pos (by omega), e]

theorem results7 (c : Dev nD) :
    Cert.InRefIdeal.Read.val_main_v39 (F := Ideal) (m ((c : Thread nD τ).loc main_arg0)) (m ((c : Thread nD τ).loc main_arg1))
        (m ((c : Thread nD τ).loc main_arg2)) (m ((c : Thread nD τ).loc main_arg3)) = G7 m c := by
  refine funext fun i => ?_
  obtain ⟨T, n, rfl⟩ : ∃ (T : Fin 32768) (n : Fin 256), i = ix2 T n := ⟨i 0, i 1, eq_ix2 i⟩
  have := n.isLt
  have e : 1280 + n.val - 1280 = n.val := by omega
  rw [Cert.InRefIdeal.Hand.v39_apply]
  by_cases h : n.val % 128 < 12
  · rw [dif_pos h]
    refine (row_eq _ _ _ _ T _ _ ?_ ?_).symm
    · simp only [padded, decide_eq_false_iff_not]
      show ¬ (_ ∧ _ ∧ 12 ≤ (1280 + n.val - 1280) % 128)
      omega
    · show src (1280 + n.val) = 1280 + n.val / 128 * 12 + n.val % 128 % 4 * 3 + n.val % 128 / 4
      unfold src
      rw [if_neg (by omega), if_neg (by omega), if_pos (by omega), e, if_pos h]
  · rw [dif_neg h]
    refine (row_padded _ _ _ _ T _ ?_).symm
    simp only [padded, decide_eq_true_eq]
    show 1280 ≤ 1280 + n.val ∧ 1280 + n.val < 1536 ∧ 12 ≤ (1280 + n.val - 1280) % 128
    omega

theorem results8 (c : Dev nD) :
    Cert.InRefIdeal.Read.val_main_v19 (F := Ideal) (m ((c : Thread nD τ).loc main_arg0)) (m ((c : Thread nD τ).loc main_arg1))
        (m ((c : Thread nD τ).loc main_arg2)) (m ((c : Thread nD τ).loc main_arg3)) = G8 m c := by
  refine funext fun i => ?_
  obtain ⟨T, n, rfl⟩ : ∃ (T : Fin 32768) (n : Fin 1024), i = ix2 T n := ⟨i 0, i 1, eq_ix2 i⟩
  have := n.isLt
  rw [Cert.InRefIdeal.Hand.v19_apply]
  refine (row_eq _ _ _ _ T _ _ ?_ ?_).symm
  · simp only [padded, decide_eq_false_iff_not]; show ¬ (_ ∧ 1536 + n.val < 1536 ∧ _); omega
  · show src (1536 + n.val) = 1304 + n.val
    unfold src; split_ifs <;> omega

end Cert.InIdeal.Hand

end
-- ==== Proof.Down.Value.lean ====
/-
  The dense feed-forward's second call: what its blocks hold at a grid point, what its body computes from them, and the
  array it leaves, row by row. Point `t` holds the 512 tokens from `512 * t` on; each is one row of the result.
-/
module

public import proofs.«01_k».proof.Proof.Gen.DownIdeal.Value
public import proofs.«01_k».proof.Proof.Moe.Row
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.DownIdeal.Hand

open Cert.DownIdeal Cert.DownIdeal.Gen Cert.DownIdeal.Value Idealize.ShloMosaic Idealize.ShloMosaic.TcCoe
open Idealize.ShloMosaic.Pointwise Idealize.SL.Sem

variable (m : (ℓ : Loc nD τ sig) → Buf (Elt Ideal) ℓ)

/-- The windows' block indices at every point. -/
theorem index (t : Fin cfg0.N) :
    (win0_0.index t = ![t.val, 0] ∧ win0_1.index t = ![t.val / 4, 0, 0] ∧ win0_2.index t = ![0, 0] ∧ win0_3.index t = ![0, 0])
    ∧ (win0_4.index t = ![t.val, 0] ∧ win0_5.index t = ![0, 0] ∧ win0_6.index t = ![t.val, 0]) := by
  revert t; decide +kernel

theorem lt_N (t : Fin cfg0.N) : t.val < 64 := t.isLt

/-- The token `r` of the block of point `t`. -/
def tok (t : Fin cfg0.N) (r : Fin 512) : Fin 32768 := ⟨512 * t.val + r, by have := lt_N t; omega⟩

/-- The batch of token `T`. -/
def batch (T : Fin 32768) : Fin 16 := ⟨T / 2048, by omega⟩

/-- The second layer's weights as the host leaves them: the first of the two layers. -/
def firstLayer (x : FVec Ideal S2x2816x1024 .f32) : FVec Ideal S2816x1024 .bf16 :=
  shapeCast S2816x1024 (extractStridedSlice S1x2816x1024 ![0, 0, 0] (truncf .bf16 x bitsLt_bf16_f32)
    slices_S2x2816x1024_S1x2816x1024_0_0_0) shapeCasts_S1x2816x1024_S2816x1024

theorem firstLayer_apply (x : FVec Ideal S2x2816x1024 .f32) (j : Fin 2816) (n : Fin 1024) :
    firstLayer x (ix2 j n) = x (ix3 0 j n) := by
  pointwise [firstLayer]

theorem V_weights (c : Dev nD) : V m c main_v2 = firstLayer (m ((c : Thread nD τ).loc main_arg5)) := by
  unfold V hostOps0
  after_results
  rfl

theorem iblk0 (c : Dev nD) (t : Fin cfg0.N) (r : Fin 512) (k : Fin 1024) :
    iblk m c 0 t (ix2 r k) = m ((c : Thread nD τ).loc main_arg0) (ix2 (tok t r) k) := by
  obtain ⟨⟨h0, h1, h2, h3⟩, h4, h5, h6⟩ := index t
  blk_ext [iblk, V, h0, tok]

theorem iblk1 (c : Dev nD) (t : Fin cfg0.N) (r : Fin 512) (k : Fin 1024) :
    iblk m c 1 t (ix3 0 0 k) = m ((c : Thread nD τ).loc main_arg1) (ix3 (batch (tok t r)) 0 k) := by
  obtain ⟨⟨h0, h1, h2, h3⟩, h4, h5, h6⟩ := index t
  blk_ext [iblk, V, h1, batch, tok]

theorem iblk2 (c : Dev nD) (t : Fin cfg0.N) (k : Fin 1024) :
    iblk m c 2 t (ix2 0 k) = m ((c : Thread nD τ).loc main_arg2) (ix2 0 k) := by
  obtain ⟨⟨h0, h1, h2, h3⟩, h4, h5, h6⟩ := index t
  blk_ext [iblk, V, h2]

theorem iblk3 (c : Dev nD) (t : Fin cfg0.N) (k : Fin 1024) :
    iblk m c 3 t (ix2 0 k) = m ((c : Thread nD τ).loc main_arg3) (ix2 0 k) := by
  obtain ⟨⟨h0, h1, h2, h3⟩, h4, h5, h6⟩ := index t
  blk_ext [iblk, V, h3]

theorem iblk4 (c : Dev nD) (t : Fin cfg0.N) (r : Fin 512) (j : Fin 2816) :
    iblk m c 4 t (ix2 r j) = m ((c : Thread nD τ).loc main_arg4) (ix2 (tok t r) j) := by
  obtain ⟨⟨h0, h1, h2, h3⟩, h4, h5, h6⟩ := index t
  blk_ext [iblk, V, h4, tok]

theorem iblk5 (c : Dev nD) (t : Fin cfg0.N) (j : Fin 2816) (n : Fin 1024) :
    iblk m c 5 t (ix2 j n) = m ((c : Thread nD τ).loc main_arg5) (ix3 0 j n) := by
  obtain ⟨⟨h0, h1, h2, h3⟩, h4, h5, h6⟩ := index t
  have h : iblk m c 5 t (ix2 j n) = V m c main_v2 (ix2 j n) := by blk_ext [iblk, h5]
  rw [h, V_weights]
  exact firstLayer_apply _ j n

theorem pay1_apply (v0 : Vec Ideal S512x2816 .bf16) (v1 : Vec Ideal S2816x1024 .bf16) (v4 : Vec Ideal S512x1024 .f32)
    (v5 : Vec Ideal S1x1x1024 .f32) (v7 v8 : Vec Ideal S1x1024 .f32) (r : Fin 512) (n : Fin 1024) :
    k0_pay1 v0 v1 v4 v5 v7 v8 (ix2 r n) = Cert.Row.out (fun k => v4 (ix2 r k)) (fun k => v5 (ix3 0 0 k))
      (fun k => v7 (ix2 0 k)) (fun k => v8 (ix2 0 k)) (fun k => ∑ j, v0 (ix2 r j) * v1 (ix2 j k)) n := by
  pointwise [k0_pay1]
  rfl

/-- The result at token `T`, channel `n`: the scaled residual of the activations' product with the weights, normalized. -/
def row (x0 : FVec Ideal S32768x1024 .f32) (x1 : FVec Ideal S16x1x1024 .f32) (x2 x3 : FVec Ideal S1x1024 .f32)
    (x4 : FVec Ideal S32768x2816 .bf16) (x5 : FVec Ideal S2x2816x1024 .f32) (T : Fin 32768) : Fin 1024 → EReal :=
  Cert.Row.out (fun k => x0 (ix2 T k)) (fun k => x1 (ix3 (batch T) 0 k)) (fun k => x2 (ix2 0 k)) (fun k => x3 (ix2 0 k))
    (fun k => ∑ j, x4 (ix2 T j) * x5 (ix3 0 j k))

/-- The array of the rows. -/
def G (c : Dev nD) : FVec Ideal S32768x1024 .f32 := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem after_apply (c : Dev nD) (t : Fin cfg0.N) (r : Fin 512) (n : Fin 1024) :
    out0_6 (iblk m c 0 t) (iblk m c 1 t) (iblk m c 2 t) (iblk m c 3 t) (iblk m c 4 t) (iblk m c 5 t) (ix2 r n)
      = G m c (ix2 (tok t r) n) := by
  frame_out
  rw [pay1_apply]
  simp only [iblk0, iblk1 m c t r, iblk2, iblk3, iblk4, iblk5]
  rfl

theorem final (c : Dev nD) : (dats m 0 c).arrAt 6 cfg0.N = G m c := by
  refine (dats m 0 c).arrAt_eq_of_covers 6 _ (by decide +kernel) fun t hf y => ?_
  obtain ⟨⟨h0, h1, h2, h3⟩, h4, h5, h6⟩ := index t
  obtain ⟨r, n, rfl⟩ : ∃ (r : Fin 512) (n : Fin 1024), y = ix2 r n := ⟨y 0, y 1, eq_ix2 y⟩
  have he : ((cfg0.win 6).blk t).view.emb (ix2 r n) = ix2 (tok t r) n := by blk_ext [h6, tok]
  rw [he]
  blk_simp
  rw [after0_6]
  exact after_apply m c t r n

end Cert.DownIdeal.Hand

end
-- ==== Proof.Down.RefValue.lean ====
/-
  The reference of the dense feed-forward's second call, read at a token.
-/
module

public import proofs.«01_k».proof.Proof.Gen.DownRefIdeal.Read
public import proofs.«01_k».proof.Proof.Moe.Row
public import Idealize.ShloMosaic.Lib.Pointwise

@[expose] public section

set_option maxRecDepth 16384

noncomputable section

namespace Cert.DownRefIdeal.Hand

open Cert.DownRefIdeal Cert.DownRefIdeal.Read Idealize.ShloMosaic Idealize.ShloMosaic.Pointwise Idealize.SL.Sem

/-- The batch of token `T`. -/
def batch (T : Fin 32768) : Fin 16 := ⟨T / 2048, by omega⟩

/-- Token `s` of batch `b`. -/
def tk (b : Fin 16) (s : Fin 2048) : Fin 32768 := ⟨b * 2048 + s, by omega⟩

theorem batch_tk (b : Fin 16) (s : Fin 2048) : batch (tk b s) = b :=
  Fin.ext (by show (b.val * 2048 + s.val) / 2048 = b.val; omega)

variable (x0 : FVec Ideal S32768x1024 .f32) (x1 : FVec Ideal S16x1x1024 .f32) (x2 x3 : FVec Ideal S1x1024 .f32)
  (x4 : FVec Ideal S32768x2816 .bf16) (x5 : FVec Ideal S2x2816x1024 .f32)

/-- The residual row of token `T`. -/
def rowZ (T : Fin 32768) : Fin 1024 → EReal :=
  Cert.Row.resid (fun k => x0 (ix2 T k)) (fun k => x1 (ix3 (batch T) 0 k)) (fun k => ∑ j, x4 (ix2 T j) * x5 (ix3 0 j k))

theorem v4_apply (T : Fin 32768) (n : Fin 1024) :
    val_main_v4 (F := Ideal) x4 x5 (ix2 T n) = ∑ j, x4 (ix2 T j) * x5 (ix3 0 j n) := by
  pointwise [val_main_v4, val_main_v3, val_main_v2, val_main_v1]

theorem v12_apply (b : Fin 16) (s : Fin 2048) (n : Fin 1024) :
    val_main_v12 (F := Ideal) x0 x1 x4 x5 (ix3 b s n) = rowZ x0 x1 x4 x5 (tk b s) n := by
  pointwise [val_main_v12, val_main_v11, val_main_v10, val_main_v9, val_main_v8, val_main_v7, val_main_v6, val_main_v5,
    val_main_v0, val_main_cst, val_main_cst_0]
  simp only [v4_apply]
  unfold rowZ
  rw [batch_tk]
  rfl

theorem v18_apply (b : Fin 16) (s : Fin 2048) :
    val_main_v18 (F := Ideal) x0 x1 x4 x5 (ix3 b s 0) = Cert.Row.mean (rowZ x0 x1 x4 x5 (tk b s)) := by
  pointwise [val_main_v18, val_main_v17, val_main_v16, val_main_v15, val_main_cst_1, val_main_cst_2]
  simp only [v12_apply]
  rfl

theorem v21_apply (b : Fin 16) (s : Fin 2048) (n : Fin 1024) :
    val_main_v21 (F := Ideal) x0 x1 x4 x5 (ix3 b s n)
      = (fun k => (rowZ x0 x1 x4 x5 (tk b s) k - Cert.Row.mean (rowZ x0 x1 x4 x5 (tk b s)))
        * (rowZ x0 x1 x4 x5 (tk b s) k - Cert.Row.mean (rowZ x0 x1 x4 x5 (tk b s)))) n := by
  pointwise [val_main_v21, val_main_v20, val_main_v19]
  rw [v12_apply, v18_apply]

theorem v38_apply (b : Fin 16) (s : Fin 2048) (n : Fin 1024) :
    val_main_v38 (F := Ideal) x0 x1 x2 x3 x4 x5 (ix3 b s n)
      = Cert.Row.norm (rowZ x0 x1 x4 x5 (tk b s)) (fun k => x2 (ix2 0 k)) (fun k => x3 (ix2 0 k)) n := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v14, val_main_v13, val_main_cst_3, val_main_cst_4, val_main_cst_5]
  simp only [v12_apply, v18_apply, v21_apply]
  rfl

/-- The reference's result at token `T`: the normalized row. -/
theorem v39_apply (T : Fin 32768) (n : Fin 1024) :
    val_main_v39 (F := Ideal) x0 x1 x2 x3 x4 x5 (ix2 T n)
      = Cert.Row.norm (rowZ x0 x1 x4 x5 T) (fun k => x2 (ix2 0 k)) (fun k => x3 (ix2 0 k)) n := by
  have hT : tk (batch T) ⟨T.val % 2048, Nat.mod_lt _ (by decide)⟩ = T :=
    Fin.ext (by show T.val / 2048 * 2048 + T.val % 2048 = T.val; omega)
  have h := v38_apply x0 x1 x2 x3 x4 x5 (batch T) ⟨T.val % 2048, Nat.mod_lt _ (by decide)⟩ n
  rw [hT] at h
  rw [← h]
  pointwise [val_main_v39]
  rfl

end Cert.DownRefIdeal.Hand

end
-- ==== Proof.Down.Equal.lean ====
/-
  The dense feed-forward's second call and its reference leave the same array.
-/
module

public import proofs.«01_k».proof.Proof.Down.Value
public import proofs.«01_k».proof.Proof.Down.RefValue

@[expose] public section

set_option maxRecDepth 16384

noncomputable section

namespace Cert.DownIdeal.Hand

open Cert.DownIdeal Idealize.ShloMosaic Idealize.ShloMosaic.TcCoe Idealize.ShloMosaic.Pointwise Idealize.SL.Sem

variable (m : (ℓ : Loc nD τ sig) → Buf (Elt Ideal) ℓ)

theorem results (c : Dev nD) :
    Cert.DownRefIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) = G m c := by
  refine funext fun i => ?_
  obtain ⟨T, n, rfl⟩ : ∃ (T : Fin 32768) (n : Fin 1024), i = ix2 T n := ⟨i 0, i 1, eq_ix2 i⟩
  rw [Cert.DownRefIdeal.Hand.v39_apply]
  rfl

end Cert.DownIdeal.Hand

end
-- ==== Proof.Win.Online.lean ====
/-
  A softmax-weighted sum over keys taken chunk by chunk. What a query carries from chunk to chunk is the greatest score so
  far, the sum of the exponentials of the scores less it, and the sum of the values weighted by those exponentials; a new
  chunk rescales the two sums to the new greatest score. A score is a real number or −∞.
-/
module

public import Idealize.ShloMosaic.PureOps.Ideal
public import Mathlib.Data.EReal.Operations

@[expose] public section

noncomputable section

namespace Cert.Win

open Idealize.ShloMosaic
open scoped BigOperators

/-- A nonnegative finite factor goes into a sum over a set. -/
theorem mul_sum_set {ι : Type} {w : EReal} (h0 : 0 ≤ w) (ht : w ≠ ⊤) (K : Finset ι) (f : ι → EReal) :
    w * ∑ k ∈ K, f k = ∑ k ∈ K, w * f k := by
  classical
  induction K using Finset.induction_on with
  | empty => simp
  | insert a s ha ih => rw [Finset.sum_insert ha, Finset.sum_insert ha, EReal.left_distrib_of_nonneg_of_ne_top h0 ht, ih]

theorem coe_sum {ι : Type} (K : Finset ι) (r : ι → ℝ) : ∑ k ∈ K, (r k : EReal) = ((∑ k ∈ K, r k : ℝ) : EReal) := by
  classical
  induction K using Finset.induction_on with
  | empty => simp
  | insert a s ha ih => rw [Finset.sum_insert ha, Finset.sum_insert ha, ih, EReal.coe_add]

theorem exp_bot : Ideal.exp ⊥ = 0 := rfl

/-- The exponential of a number below +∞ is nonnegative and finite. -/
theorem exp_finite {a : EReal} (h : a ≠ ⊤) : 0 ≤ Ideal.exp a ∧ Ideal.exp a ≠ ⊤ := by
  induction a with
  | bot => exact ⟨le_rfl, EReal.zero_ne_top⟩
  | top => exact absurd rfl h
  | coe r => exact ⟨EReal.coe_nonneg.mpr (Real.exp_pos r).le, EReal.coe_ne_top _⟩

/-- A difference whose second term is not +∞ is below +∞ when the first is at most the second. -/
theorem sub_ne_top {a b : EReal} (hab : a ≤ b) (hb : b ≠ ⊤) : a - b ≠ ⊤ := by
  induction b with
  | bot => rw [le_bot_iff.mp hab]; decide
  | top => exact absurd rfl hb
  | coe s =>
    induction a with
    | bot => rw [EReal.bot_sub]; decide
    | top => exact absurd hab (by simp)
    | coe r => exact EReal.coe_ne_top (r - s)

/-- Rescaling: the exponential less the old maximum, rescaled to the new one. -/
theorem rescale {s a b : EReal} (hs : s ≤ a) (hab : a ≤ b) (hb : b ≠ ⊤) :
    Ideal.exp (a - b) * Ideal.exp (s - a) = Ideal.exp (s - b) := by
  induction s with
  | bot =>
    have h (x : EReal) : (⊥ : EReal) - x = ⊥ := EReal.bot_sub x
    rw [h, h, exp_bot, mul_zero]
  | top => exact absurd (top_le_iff.mp (hs.trans hab)) hb
  | coe s =>
    induction a with
    | bot => exact absurd hs (by simp)
    | top => exact absurd (top_le_iff.mp hab) hb
    | coe a =>
      induction b with
      | bot => exact absurd hab (by simp)
      | top => exact absurd rfl hb
      | coe b =>
        show ((Real.exp (a - b) : ℝ) : EReal) * ((Real.exp (s - a) : ℝ) : EReal) = ((Real.exp (s - b) : ℝ) : EReal)
        rw [← EReal.coe_mul, ← Real.exp_add]
        congr 2; ring

section

variable {ι : Type} [DecidableEq ι] (S v : ι → EReal)

/-- The greatest score of a set of keys. -/
def best (K : Finset ι) : EReal := K.sup S
/-- The exponentials of a set's scores, summed. -/
def mass (K : Finset ι) : EReal := ∑ k ∈ K, Ideal.exp (S k - best S K)
/-- The values of a set's keys weighted by those exponentials, summed. -/
def mix (K : Finset ι) : EReal := ∑ k ∈ K, Ideal.exp (S k - best S K) * v k

theorem best_ne_top (hS : ∀ k, S k ≠ ⊤) (K : Finset ι) : best S K ≠ ⊤ := by
  refine ne_of_lt ((Finset.sup_lt_iff (show (⊥ : EReal) < ⊤ by decide)).mpr fun k _ => lt_top_iff_ne_top.mpr (hS k))

theorem best_union (K B : Finset ι) : best S (K ∪ B) = max (best S K) (best S B) := Finset.sup_union

variable {S}

theorem mass_union (hS : ∀ k, S k ≠ ⊤) {K B : Finset ι} (h : Disjoint K B) :
    mass S (K ∪ B) = Ideal.exp (best S K - best S (K ∪ B)) * mass S K + ∑ k ∈ B, Ideal.exp (S k - best S (K ∪ B)) := by
  have hle : best S K ≤ best S (K ∪ B) := Finset.sup_mono Finset.subset_union_left
  have hf := exp_finite (sub_ne_top hle (best_ne_top S hS _))
  unfold mass
  rw [Finset.sum_union h, mul_sum_set hf.1 hf.2]
  refine congrArg (· + _) (Finset.sum_congr rfl fun k hk => ?_)
  exact (rescale (Finset.le_sup hk) hle (best_ne_top S hS _)).symm

theorem mix_union (hS : ∀ k, S k ≠ ⊤) {K B : Finset ι} (h : Disjoint K B) :
    mix S v (K ∪ B) = Ideal.exp (best S K - best S (K ∪ B)) * mix S v K + ∑ k ∈ B, Ideal.exp (S k - best S (K ∪ B)) * v k := by
  have hle : best S K ≤ best S (K ∪ B) := Finset.sup_mono Finset.subset_union_left
  have hf := exp_finite (sub_ne_top hle (best_ne_top S hS _))
  unfold mix
  rw [Finset.sum_union h, mul_sum_set hf.1 hf.2]
  refine congrArg (· + _) (Finset.sum_congr rfl fun k hk => ?_)
  rw [← mul_assoc]
  exact congrArg (· * v k) (rescale (Finset.le_sup hk) hle (best_ne_top S hS _)).symm

/-- Keys whose score is −∞ change nothing. -/
theorem best_of_bot [Fintype ι] {K : Finset ι} (h : ∀ k, k ∉ K → S k = ⊥) : best S K = best S Finset.univ := by
  refine le_antisymm (Finset.sup_mono (Finset.subset_univ K)) (Finset.sup_le fun k _ => ?_)
  by_cases hk : k ∈ K
  · exact Finset.le_sup hk
  · rw [h k hk]; exact bot_le

theorem mass_of_bot [Fintype ι] {K : Finset ι} (h : ∀ k, k ∉ K → S k = ⊥) : mass S K = mass S Finset.univ := by
  unfold mass
  rw [best_of_bot h]
  refine Finset.sum_subset (Finset.subset_univ K) fun k _ hk => ?_
  rw [h k hk, EReal.bot_sub, exp_bot]

theorem mix_of_bot [Fintype ι] {K : Finset ι} (h : ∀ k, k ∉ K → S k = ⊥) : mix S v K = mix S v Finset.univ := by
  unfold mix
  rw [best_of_bot h]
  refine Finset.sum_subset (Finset.subset_univ K) fun k _ hk => ?_
  rw [h k hk, EReal.bot_sub, exp_bot, zero_mul]

/-- With one finite score the exponentials' sum is a positive real number. -/
theorem mass_real (hS : ∀ k, S k ≠ ⊤) {K : Finset ι} {d : ι} (hd : d ∈ K) (hf : S d ≠ ⊥) : ∃ r : ℝ, 0 < r ∧ mass S K = r := by
  have hb : best S K ≠ ⊥ := fun h => hf (le_bot_iff.mp (h ▸ Finset.le_sup hd))
  obtain ⟨b, hb⟩ : ∃ b : ℝ, best S K = b := ⟨(best S K).toReal, (EReal.coe_toReal (best_ne_top S hS K) hb).symm⟩
  have he (k : ι) : ∃ r : ℝ, 0 ≤ r ∧ (S k ≠ ⊥ → 0 < r) ∧ Ideal.exp (S k - best S K) = r := by
    rw [hb]
    by_cases h : S k = ⊥
    · exact ⟨0, le_rfl, fun h' => absurd h h', by rw [h, EReal.bot_sub, exp_bot]; rfl⟩
    · have : S k = ((S k).toReal : EReal) := (EReal.coe_toReal (hS k) h).symm
      rw [this]
      exact ⟨Real.exp ((S k).toReal - b), (Real.exp_pos _).le, fun _ => Real.exp_pos _, rfl⟩
  choose r h0 h1 h2 using he
  refine ⟨∑ k ∈ K, r k, ?_, ?_⟩
  · exact Finset.sum_pos' (fun k _ => h0 k) ⟨d, hd, h1 d hf⟩
  · unfold mass
    rw [Finset.sum_congr rfl fun k _ => h2 k]
    exact coe_sum K r

/-- The quotient of the weighted sum by the exponentials' sum is the sum weighted by the quotients. -/
theorem mix_div (hS : ∀ k, S k ≠ ⊤) {K : Finset ι} {d : ι} (hd : d ∈ K) (hf : S d ≠ ⊥) :
    Ideal.div (mix S v K) (mass S K) = ∑ k ∈ K, v k * Ideal.div (Ideal.exp (S k - best S K)) (mass S K) := by
  obtain ⟨r, hr, h⟩ := mass_real hS hd hf
  have hq (a : EReal) : Ideal.div a r = ((1 / r : ℝ) : EReal) * a := by
    rw [Ideal.div_coe hr.ne', mul_comm]
  rw [h, hq]
  unfold mix
  rw [mul_sum_set (EReal.coe_nonneg.mpr (one_div_pos.mpr hr).le) (EReal.coe_ne_top _)]
  refine Finset.sum_congr rfl fun k _ => ?_
  rw [hq, ← mul_assoc, mul_comm]

end

end Cert.Win

end
-- ==== Proof.Win.Payloads.lean ====
/-
  The window attention's body at an index: the scores of a chunk of 128 keys, and what one chunk makes of what the 512 rows
  carry. Row `128 * h + i` is head `h` of the block's token `i`.
-/
module

public import proofs.«01_k».proof.Proof.Gen.WinIdeal.Skeleton
public import proofs.«01_k».proof.Proof.Win.Online
public import Idealize.ShloMosaic.Lib.Pointwise

@[expose] public section

set_option maxRecDepth 16384

noncomputable section

namespace Cert.WinIdeal.Hand

open Cert.WinIdeal Cert.WinIdeal.Gen Idealize.ShloMosaic Idealize.ShloMosaic.Pointwise
open scoped BigOperators

variable [Cert.WinIdeal.Facts]

/-- Head `h` of token `i`. -/
def row (h : Fin 4) (i : Fin 128) : Fin 512 := ⟨128 * h + i, by omega⟩
/-- Column `d` of head `h` in a block's 256. -/
def col (h : Fin 4) (d : Fin 64) : Fin 256 := ⟨64 * h + d, by omega⟩
/-- The first 64 lanes, a key's. -/
def kLane (d : Fin 64) : Fin 128 := ⟨d, by omega⟩
/-- The last 64 lanes, a value's. -/
def vLane (d : Fin 64) : Fin 128 := ⟨64 + d, by omega⟩

section
variable (v0 : Vec Ideal S1x128x256 .bf16) (v57 : Vec Ideal S1x128x128 .bf16) (v63 : Vec Ideal S1x1x512x128 .f32)
variable (m l : FVec Ideal S512x1 .f32) (acc : FVec Ideal S512x128 .f32)

theorem pay2_k (h : Fin 4) (i : Fin 128) (d : Fin 64) : k0_pay2 v0 (ix2 (row h i) (kLane d)) = v0 (ix3 0 i (col h d)) := by
  pointwise [k0_pay2]
  have hr : (row h i).val = 128 * h + i := rfl
  have hk : (kLane d).val = d := rfl
  split_ifs <;> first | omega | exact congrArg v0 (congrArg₂ (ix3 0) (Fin.ext (by dsimp only; omega)) (Fin.ext (by dsimp only [col]; omega)))

theorem pay2_v (h : Fin 4) (i : Fin 128) (d : Fin 64) : k0_pay2 v0 (ix2 (row h i) (vLane d)) = 0 := by
  pointwise [k0_pay2]
  have hk : (vLane d).val = 64 + d := rfl
  split_ifs <;> first | omega | rfl

theorem pay7_apply (r : Fin 512) (k : Fin 128) :
    k0_pay7 v0 v57 v63 (ix2 r k) = (∑ j, k0_pay2 v0 (ix2 r j) * v57 (ix3 0 k j)) + v63 (ix4 0 0 r k) := by
  pointwise [k0_pay7, k0_pay6]

theorem pay8_apply (r : Fin 512) : k0_pay8 v0 m v57 v63 (ix2 r 0)
    = max (m (ix2 r 0)) (Finset.univ.sup fun k => k0_pay7 v0 v57 v63 (ix2 r k)) := by
  pointwise [k0_pay8]
  rfl

theorem pay9_apply (r : Fin 512) :
    k0_pay9 v0 m v57 v63 (ix2 r 0) = Ideal.exp (m (ix2 r 0) - k0_pay8 v0 m v57 v63 (ix2 r 0)) := by
  pointwise [k0_pay9]

theorem pay10_apply (r : Fin 512) (k : Fin 128) : k0_pay10 v0 m v57 v63 (ix2 r k)
    = Ideal.exp (k0_pay7 v0 v57 v63 (ix2 r k) - k0_pay8 v0 m v57 v63 (ix2 r 0)) := by
  pointwise [k0_pay10]

theorem pay11_apply (r : Fin 512) : k0_pay11 v0 m l v57 v63 (ix2 r 0)
    = k0_pay9 v0 m v57 v63 (ix2 r 0) * l (ix2 r 0) + ∑ k, k0_pay10 v0 m v57 v63 (ix2 r k) := by
  pointwise [k0_pay11]

theorem pay12_apply (r : Fin 512) (j : Fin 128) : k0_pay12 v0 m acc v57 v63 (ix2 r j)
    = k0_pay9 v0 m v57 v63 (ix2 r 0) * acc (ix2 r j) + ∑ k, k0_pay10 v0 m v57 v63 (ix2 r k) * v57 (ix3 0 k j) := by
  pointwise [k0_pay12, k0_pay6]

end

/-- What a row gives: the weighted sum of a value's lane by the exponentials' sum, times the gate's lane of the head. -/
theorem pay1_apply (l : FVec Ideal S512x1 .f32) (acc : FVec Ideal S512x128 .f32) (v27 : Vec Ideal S1x128x128 .f32)
    (h : Fin 4) (i : Fin 128) (d : Fin 64) :
    k0_pay1 (k0_pay20 l acc) (k0_pay21 v27) (k0_pay22 l acc v27) (k0_pay23 l acc v27) (k0_pay24 v27) (ix3 0 i (col h d))
      = Ideal.div (acc (ix2 (row h i) (vLane d))) (l (ix2 (row h i) 0)) * Ideal.logistic (v27 (ix3 0 i ⟨8 + h, by omega⟩)) := by
  pointwise [k0_pay1, k0_pay20, k0_pay21, k0_pay22, k0_pay23, k0_pay24]
  have hc : (col h d).val = 64 * h + d := rfl
  split_ifs <;> refine congrArg₂ (· * ·) (congrArg₂ Ideal.div (congrArg acc (congrArg₂ ix2 (Fin.ext ?_) (Fin.ext ?_)))
    (congrArg l (congrArg₂ ix2 (Fin.ext ?_) rfl))) (congrArg (fun x => Ideal.logistic (v27 (ix3 0 i x))) (Fin.ext ?_))
  all_goals simp [row, vLane]
  all_goals omega

end Cert.WinIdeal.Hand

end
-- ==== Proof.Win.Steps.lean ====
/-
  The window attention's loop at a grid point: each trip makes the chunk's step of what the rows carry.
-/
module

public import proofs.«01_k».proof.Proof.Gen.WinIdeal.Value
public import proofs.«01_k».proof.Proof.Win.Payloads
public import Idealize.ShloMosaic.Lib.Claim
public import Idealize.ShloMosaic.Lib.Pipeline.ValueKit
public import Idealize.ShloMosaic.Lib.Tactic

@[expose] public section

set_option maxRecDepth 16384

noncomputable section

namespace Cert.WinIdeal.Hand

open Cert.WinIdeal Cert.WinIdeal.Gen Cert.WinIdeal.Value Idealize.ShloMosaic Idealize.ShloMosaic.TcCoe
open Idealize.ShloMosaic.Pointwise Idealize.SL.Sem

/-- What the 512 rows carry from chunk to chunk. -/
abbrev Carried : Type := FVec Ideal S512x1 .f32 × FVec Ideal S512x1 .f32 × FVec Ideal S512x128 .f32

/-- The chunk's step of what the rows carry. -/
def stepOf (v0 : Vec Ideal S1x128x256 .bf16) (v57 : Vec Ideal S1x128x128 .bf16) (v63 : Vec Ideal S1x1x512x128 .f32) (a : Carried) : Carried :=
  (k0_pay8 v0 a.1 v57 v63, k0_pay11 v0 a.1 a.2.1 v57 v63, k0_pay12 v0 a.1 a.2.2 v57 v63)

/-- The first chunk of a block of tokens. -/
def first (i : grid0.Coords) : ℕ := (i 2).val - 4

theorem trips_two : ∀ i : grid0.Coords, Scf.trips (k0_t2_loop i).lb (k0_t2_loop i).ub (k0_t2_loop i).st = 0 := by decide +kernel

theorem trips_one : ∀ i : grid0.Coords,
    Scf.trips (k0_t1_loop i).lb (k0_t1_loop i).ub (k0_t1_loop i).st = (i 2).val + 1 - first i := by decide +kernel

/-- Trip `k` reads the chunk `first + k`, and the table's plane of its distance from the block. -/
theorem offsets : ∀ (i : grid0.Coords) (k : Fin (k0_t1_loop i).trips),
    k0_off1 i k = ![0, 128 * (first i + k), 0] ∧ k0_off2 i k = ![0, (i 2).val - (first i + k), 0, 0] := by decide +kernel

/-- What the rows carry before any chunk. -/
abbrev start : Carried := (k0_pay3, k0_pay4, k0_pay5)

section
variable (c : Dev nD) (i : grid0.Coords) (arg3 : Memref sig .tc .vmem S1x128x256 .bf16) (harg3 : arg3.IsWhole)
  (arg4 : Memref sig .tc .vmem S1x2048x128 .bf16) (harg4 : arg4.IsWhole) (arg5 : Memref sig .tc .vmem S1x5x512x128 .f32)
  (harg5 : arg5.IsWhole) (arg6 : Memref sig .tc .vmem S1x128x128 .f32) (harg6 : arg6.IsWhole)
  (arg7 : Memref sig .tc .vmem S1x128x256 .bf16) (harg7 : arg7.IsWhole)
  (x0 : Vec Ideal S1x128x256 .bf16) (x1 : Vec Ideal S1x2048x128 .bf16) (x2 : Vec Ideal S1x5x512x128 .f32) (x3 : Vec Ideal S1x128x128 .f32)

theorem trip_eq (𝒱 : Variants) (bd : Option 𝒱.V) (k : Fin (k0_t1_loop i).trips) (a : Carried) :
    tripR_k0_t1 (F := Ideal) 𝒱 c bd i arg3 harg3 arg4 harg4 arg5 harg5 arg6 harg6 arg7 harg7 x0 (harg4.unread x1) (harg5.unread x2) k a
      = stepOf x0 (View.ld x1 (Rect.unit (s := S1x2048x128) (k0_off1 i k) S1x128x128.size (k0_off1_inb i k)))
          (View.ld x2 (Rect.unit (s := S1x5x512x128) (k0_off2 i k) S1x1x512x128.size (k0_off2_inb i k))) a := by
  unfold tripR_k0_t1 trip_k0_t1
  dsimp only
  simp only [View.readAt_eq_ld, harg4.read_unread, harg5.read_unread]
  rfl

/-- What the rows carry before trip `n`. -/
def carried (n : ℕ) : Carried :=
  st_k0_t1 (F := Ideal) Variants.none c none i arg3 harg3 arg4 harg4 arg5 harg5 arg6 harg6 arg7 harg7 x0 (harg4.unread x1) (harg5.unread x2) start n

theorem carried_zero : carried c i arg3 harg3 arg4 harg4 arg5 harg5 arg6 harg6 arg7 harg7 x0 x1 x2 0 = start := rfl

theorem carried_succ (k : Fin (k0_t1_loop i).trips) :
    carried c i arg3 harg3 arg4 harg4 arg5 harg5 arg6 harg6 arg7 harg7 x0 x1 x2 (k + 1)
      = stepOf x0 (View.ld x1 (Rect.unit (s := S1x2048x128) (k0_off1 i k) S1x128x128.size (k0_off1_inb i k)))
          (View.ld x2 (Rect.unit (s := S1x5x512x128) (k0_off2 i k) S1x1x512x128.size (k0_off2_inb i k)))
          (carried c i arg3 harg3 arg4 harg4 arg5 harg5 arg6 harg6 arg7 harg7 x0 x1 x2 k) :=
  (st_k0_t1_succ ..).trans (trip_eq ..)

theorem zero3 : (![0, 0, 0] : Fin 3 → Nat) = fun _ => 0 := funext fun a => by fin_cases a <;> rfl

/-- The block a point leaves: every row's weighted sum over its exponentials' sum, times its gate. -/
theorem out_eq (h : Fin 4) (r : Fin 128) (d : Fin 64) :
    out0_A_4 c i arg3 harg3 arg4 harg4 arg5 harg5 arg6 harg6 arg7 harg7 x0 x1 x2 x3 (ix3 0 r (col h d))
      = Ideal.div ((carried c i arg3 harg3 arg4 harg4 arg5 harg5 arg6 harg6 arg7 harg7 x0 x1 x2 ((i 2).val + 1 - first i)).2.2 (ix2 (row h r) (vLane d)))
          ((carried c i arg3 harg3 arg4 harg4 arg5 harg5 arg6 harg6 arg7 harg7 x0 x1 x2 ((i 2).val + 1 - first i)).2.1 (ix2 (row h r) 0))
        * Ideal.logistic (x3 (ix3 0 r ⟨8 + h, by omega⟩)) := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero (S := S1x128x256) zero3]
  simp only [View.readAt_eq_ld, harg3.read_unread, harg6.read_unread, View.ld_unit_zero (S := S1x128x256) zero3,
    View.ld_unit_zero (S := S1x128x128) zero3]
  rw [pay1_apply, trips_one]
  have key (a : Carried) : st_k0_t2 (F := Ideal) Variants.none c none i arg3 harg3 arg4 harg4 arg5 harg5 arg6 harg6 arg7 harg7 x0 (harg4.unread x1) (harg5.unread x2) a
      (Scf.trips (k0_t2_loop i).lb (k0_t2_loop i).ub (k0_t2_loop i).st) = a := by rw [trips_two]; rfl
  exact congrArg (fun a : Carried => Ideal.div (a.2.2 (ix2 (row h r) (vLane d))) (a.2.1 (ix2 (row h r) 0))
    * Ideal.logistic (x3 (ix3 0 r ⟨8 + h, by omega⟩))) (key _)

end

end Cert.WinIdeal.Hand

end
-- ==== Proof.Win.Bias.lean ====
/-
  The window attention of one head at one token: the bias a key's distance gives, the scores, and the gated answer. A key
  outside the window of 512 has the bias −∞.
-/
module

public import proofs.«01_k».proof.Proof.Win.Online
public import Idealize.ShloMosaic.Lib.Pointwise

@[expose] public section

noncomputable section

namespace Cert.Win

open Idealize.ShloMosaic
open scoped BigOperators

/-- Whether a distance lies in the window, as a bit. -/
def inside (d : BitVec 32) : BitVec 1 := IntOp.andi (IntOp.cmpi .sge d 0#32) (IntOp.cmpi .slt d 512#32)

/-- The bucket of a distance: itself below 16, on a logarithmic scale above. -/
def bucket (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32)) (Ideal.ofBits .f32 0x41800000#32)))
        (Ideal.ofBits .f32 0x40051592#32) * Ideal.ofBits .f32 0x41800000#32))) 31#32)

/-- A negative index counts from the table's end. -/
def wrap (b : BitVec 32) : BitVec 32 := Scalar.select (IntOp.cmpi .slt b 0#32) (IntOp.addi b 32#32) b

/-- The row of the table of biases an index names. -/
def entry (w : BitVec 32) : Fin 32 := ⟨min w.toInt.toNat 31, by omega⟩

/-- The bias of a distance, from a head's column of the table. -/
def bias (e : Fin 32 → EReal) (d : BitVec 32) : EReal := Scalar.select (inside d) (e (entry (wrap (bucket d)))) ⊥

/-- Token minus key. -/
def away (t k : ℕ) : BitVec 32 := BitVec.ofNat 32 t - BitVec.ofNat 32 k

theorem away_of_le {t k : ℕ} (h : k ≤ t) : away t k = BitVec.ofNat 32 (t - k) := by
  unfold away
  refine BitVec.eq_of_toNat_eq ?_
  simp only [BitVec.toNat_sub, BitVec.toNat_ofNat]
  omega

theorem away_of_lt {t k : ℕ} (h : t < k) : away t k = - BitVec.ofNat 32 (k - t) := by
  unfold away
  refine BitVec.eq_of_toNat_eq ?_
  simp only [BitVec.toNat_sub, BitVec.toNat_neg, BitVec.toNat_ofNat]
  omega

/-- The distance within a chunk, for a chunk `a` chunks back. -/
theorem away_chunk (c a i k : ℕ) :
    128#32 * BitVec.ofNat 32 a + BitVec.ofNat 32 i - BitVec.ofNat 32 k = away (128 * (c + a) + i) (128 * c + k) := by
  unfold away
  refine BitVec.eq_of_toNat_eq ?_
  simp only [BitVec.toNat_sub, BitVec.toNat_add, BitVec.toNat_mul, BitVec.toNat_ofNat]
  omega

theorem inside_nonneg : ∀ n : Fin 2048, inside (BitVec.ofNat 32 n) = if n.val < 512 then 1#1 else 0#1 := by decide +kernel
theorem inside_neg : ∀ n : Fin 2048, n ≠ 0 → inside (- BitVec.ofNat 32 n) = 0#1 := by decide +kernel

theorem inside_eq (t k : Fin 2048) : inside (away t k) = if k.val ≤ t.val ∧ t.val - k.val < 512 then 1#1 else 0#1 := by
  rcases Nat.lt_or_ge t.val k.val with h | h
  · rw [away_of_lt h, inside_neg ⟨k - t, by omega⟩ (fun e => by have := congrArg Fin.val e; simp at this; omega), if_neg (by omega)]
  · rw [away_of_le h, inside_nonneg ⟨t - k, by omega⟩]
    simp only [h, true_and]

section
variable (q : Fin 64 → EReal) (k : Fin 2048 → Fin 64 → EReal) (v : Fin 2048 → EReal) (e : Fin 32 → EReal) (gate : EReal) (t : Fin 2048)

/-- A key's score. -/
def score (key : Fin 2048) : EReal := (∑ d, q d * k key d) + bias e (away t key)

/-- The gated answer. -/
def answer : EReal :=
  Ideal.div (mix (score q k e t) v Finset.univ) (mass (score q k e t) Finset.univ) * Ideal.logistic gate

theorem score_out {key : Fin 2048} (h : ¬ (key.val ≤ t.val ∧ t.val - key.val < 512)) : score q k e t key = ⊥ := by
  unfold score bias
  rw [inside_eq, if_neg h]
  exact EReal.add_bot _

/-- With real queries, keys and biases a key inside the window has a real score. -/
theorem score_real (hq : ∀ d, ∃ r : ℝ, q d = r) (hk : ∀ key d, ∃ r : ℝ, k key d = r) (he : ∀ b, ∃ r : ℝ, e b = r)
    {key : Fin 2048} (h : key.val ≤ t.val ∧ t.val - key.val < 512) : ∃ r : ℝ, score q k e t key = r := by
  choose q' hq using hq
  choose k' hk using hk
  choose e' he using he
  unfold score bias
  rw [inside_eq, if_pos h]
  refine ⟨(∑ d, q' d * k' key d) + e' (entry (wrap (bucket (away t key)))), ?_⟩
  show (∑ d, q d * k key d) + e (entry (wrap (bucket (away t key)))) = _
  rw [he, EReal.coe_add, ← coe_sum]
  simp only [hq, hk, EReal.coe_mul]

theorem score_ne_top (hq : ∀ d, ∃ r : ℝ, q d = r) (hk : ∀ key d, ∃ r : ℝ, k key d = r) (he : ∀ b, ∃ r : ℝ, e b = r) (key : Fin 2048) :
    score q k e t key ≠ ⊤ := by
  by_cases h : key.val ≤ t.val ∧ t.val - key.val < 512
  · obtain ⟨r, hr⟩ := score_real q k e t hq hk he h
    rw [hr]; exact EReal.coe_ne_top r
  · rw [score_out q k e t h]; decide

end

/-- Key `k` of chunk `c`. -/
def key (c : Fin 16) : Fin 128 ↪ Fin 2048 :=
  ⟨fun k => ⟨128 * c + k, by omega⟩, fun a b h => Fin.ext (by have := congrArg Fin.val h; simp only at this; omega)⟩

/-- A chunk's keys. -/
def chunk (c : Fin 16) : Finset (Fin 2048) := Finset.univ.map (key c)

/-- The keys of `n` chunks from chunk `lo` on. -/
def span (lo n : ℕ) : Finset (Fin 2048) := Finset.univ.filter fun k => lo ≤ k.val / 128 ∧ k.val / 128 < lo + n

theorem mem_chunk (c : Fin 16) (k : Fin 2048) : k ∈ chunk c ↔ k.val / 128 = c := by
  unfold chunk
  rw [Finset.mem_map]
  constructor
  · rintro ⟨a, -, rfl⟩; show (128 * c.val + a.val) / 128 = c.val; omega
  · intro h; exact ⟨⟨k % 128, by omega⟩, Finset.mem_univ _, Fin.ext (by show 128 * c.val + k.val % 128 = k.val; omega)⟩

theorem span_zero (lo : ℕ) : span lo 0 = ∅ := by
  unfold span
  exact Finset.filter_false_of_mem fun k _ => by omega

theorem span_succ (lo n : ℕ) (c : Fin 16) (hc : c.val = lo + n) : span lo (n + 1) = span lo n ∪ chunk c := by
  ext k
  simp only [Finset.mem_union, mem_chunk, span, Finset.mem_filter, Finset.mem_univ, true_and]
  omega

theorem span_disjoint (lo n : ℕ) (c : Fin 16) (hc : c.val = lo + n) : Disjoint (span lo n) (chunk c) := by
  rw [Finset.disjoint_left]
  intro k h
  simp only [mem_chunk, span, Finset.mem_filter, Finset.mem_univ, true_and] at h ⊢
  omega

end Cert.Win

end
-- ==== Proof.Win.Table.lean ====
/-
  The window attention's table of biases as the host lays it out: for each of the five distances a chunk of keys can have
  from a block of tokens, for each head of a group, for each of the block's 128 tokens and the chunk's 128 keys.
-/
module

public import proofs.«01_k».proof.Proof.Gen.WinIdeal.Value
public import proofs.«01_k».proof.Proof.Win.Payloads
public import proofs.«01_k».proof.Proof.Win.Bias
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.WinIdeal.Hand

open Cert.WinIdeal Cert.WinIdeal.Gen Idealize.ShloMosaic Idealize.ShloMosaic.TcCoe Idealize.ShloMosaic.Pointwise Idealize.SL.Sem

variable (m : (ℓ : Loc nD τ sig) → Buf (Elt Ideal) ℓ)

/-- Token minus key. -/
def dist : IVec S5x128x128 32 :=
  subi (broadcastInDim S5x128x128 ![0, 1, 2] bcast_S5x128x1_S5x128x128_0_1_2 (addi
      (broadcastInDim S5x128x1 ![0, 1, 2] bcast_S5x1x1_S5x128x1_0_1_2 (muli (broadcastInDim S5x1x1 ![] bcast_S_S5x1x1 (constantI S_ 32 128#32))
        (broadcastInDim S5x1x1 ![0] bcast_S5_S5x1x1_0 (iotaInDim S5 32 0))))
      (broadcastInDim S5x128x1 ![0, 1, 2] bcast_S1x128x1_S5x128x1_0_1_2 (broadcastInDim S1x128x1 ![1] bcast_S128_S1x128x1_1 (iotaInDim S128 32 0)))))
    (broadcastInDim S5x128x128 ![0, 1, 2] bcast_S1x1x128_S5x128x128_0_1_2 (broadcastInDim S1x1x128 ![2] bcast_S128_S1x1x128_2 (iotaInDim S128 32 0)))

/-- The distances at one word. -/
def flat (w : BitVec 32) : IVec S5x128x128 32 := broadcastInDim S5x128x128 ![] bcast_S_S5x128x128 (constantI S_ 32 w)
/-- The distances at one number. -/
def flatF (w : BitVec 32) : FVec Ideal S5x128x128 .f32 := broadcastInDim S5x128x128 ![] bcast_S_S5x128x128 (constant S_ .f32 w)

def insides : IVec S5x128x128 1 := andi (cmpi .sge dist (flat 0#32)) (cmpi .slt dist (flat 512#32))

def buckets : IVec S5x128x128 32 :=
  select (cmpi .slt (maxsi dist (flat 0#32)) (flat 16#32)) (maxsi dist (flat 0#32))
    (minsi (addi (flat 16#32) (fptosi 32 (mulf (Host.divf (Host.log (Host.divf (sitofp .f32 (maxsi (maxsi dist (flat 0#32)) (flat 1#32)))
      (flatF 0x41800000#32))) (flatF 0x40051592#32)) (flatF 0x41800000#32)))) (flat 31#32))

def wrapped : IVec S5x128x128 32 := select (cmpi .slt buckets (flat 0#32)) (addi buckets (flat 32#32)) buckets

def table (x : FVec Ideal S32x8 .f32) : FVec Ideal S2x5x512x128 .f32 :=
  shapeCast S2x5x512x128 (transpose S2x5x4x128x128 [3, 0, 4, 1, 2] (shapeCast S5x128x128x2x4
    (select (broadcastInDim S5x128x128x8 ![0, 1, 2, 3] bcast_S5x128x128x1_S5x128x128x8_0_1_2_3
        (broadcastInDim S5x128x128x1 ![0, 1, 2] bcast_S5x128x128_S5x128x128x1_0_1_2 insides))
      (Host.gather gather_S32x8_S5x128x128x1_S5x128x128x8_3_0_n_n_0_3_18 x
        (broadcastInDim S5x128x128x1 ![0, 1, 2] bcast_S5x128x128_S5x128x128x1_0_1_2 wrapped))
      (broadcastInDim S5x128x128x8 ![] bcast_S_S5x128x128x8 (id (constant S_ .f32 0xFF800000#32))))
    shapeCasts_S5x128x128x8_S5x128x128x2x4) transposes_S5x128x128x2x4_S2x5x4x128x128_3_0_4_1_2) shapeCasts_S2x5x4x128x128_S2x5x512x128

theorem V_table (c : Dev nD) : V m c main_v50 = table (m ((c : Thread nD τ).loc main_arg3)) := by
  unfold V hostOps0 hostOps0_1 hostOps0_2 hostOps0_3 hostOps0_4
  simp only [List.flatten_cons, List.flatten_nil, List.append_nil, List.cons_append, List.nil_append]
  after_results
  rfl

theorem wrapped_apply (a : Fin 5) (i k : Fin 128) : wrapped (ix3 a i k) = Cert.Win.wrap (Cert.Win.bucket (dist (ix3 a i k))) := by
  pointwise [wrapped, buckets, flat, flatF]
  rfl

theorem insides_apply (a : Fin 5) (i k : Fin 128) : insides (ix3 a i k) = Cert.Win.inside (dist (ix3 a i k)) := by
  pointwise [insides, flat]
  rfl

theorem dist_apply (a : Fin 5) (i k : Fin 128) :
    dist (ix3 a i k) = 128#32 * BitVec.ofNat 32 a + BitVec.ofNat 32 i - BitVec.ofNat 32 k := by
  pointwise [dist]
  rfl

/-- The biases gathered: for a distance the row of the table that the index array names. -/
theorem gather_apply (x : FVec Ideal S32x8 .f32) (idx : IVec S5x128x128x1 32) (a : Fin 5) (i k : Fin 128) (h : Fin 8) :
    Host.gather gather_S32x8_S5x128x128x1_S5x128x128x8_3_0_n_n_0_3_18 x idx (ix4 a i k h)
      = x (ix2 (Cert.Win.entry (idx (ix4 a i k 0))) h) := by
  unfold Host.gather
  refine congrArg x (funext fun b => Fin.ext ?_)
  let d := gather_S32x8_S5x128x128x1_S5x128x128x8_3_0_n_n_0_3_18
  show d.start (ix4 a i k h) idx b + d.batchCoord (ix4 a i k h) b + d.offCoord (ix4 a i k h) b = _
  rw [GatherDims.batchCoord_eq_zero _ _ _ (show b ∉ d.operandBatchingDims from List.not_mem_nil)]
  have hb : b = 0 ∨ b = 1 := by
    match b with
    | ⟨0, _⟩ => exact .inl rfl
    | ⟨1, _⟩ => exact .inr rfl
  rcases hb with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix4 a i k h) ⟨List.idxOf (0 : Fin 2) d.startIndexMap,
        List.idxOf_lt_length_iff.2 (List.mem_singleton.mpr rfl)⟩ = ix4 a i k 0 := by
      funext b
      refine Fin.ext ?_
      match b with
      | ⟨0, _⟩ => rfl
      | ⟨1, _⟩ => rfl
      | ⟨2, _⟩ => rfl
      | ⟨3, _⟩ => rfl
    rw [hsi]
    rfl
  · unfold GatherDims.start GatherDims.offCoord
    rw [dif_neg (show (1 : Fin 2) ∉ d.startIndexMap from show (1 : Fin 2) ∉ ([0] : List (Fin 2)) by decide),
      dif_pos (show (1 : Fin 2) ∈ d.sKept from (GatherDims.mem_sKept d _).mpr ⟨show (1 : Fin 2) ∉ ([0] : List (Fin 2)) by decide, List.not_mem_nil⟩)]
    exact Nat.zero_add _

/-- Head `h` of group `g`. -/
def head (g : Fin 2) (h : Fin 4) : Fin 8 := ⟨4 * g + h, by omega⟩

theorem ninf : Ideal.ofBits .f32 0xFF800000#32 = ⊥ := by simp [Ideal.ofBits, Ideal.ieee]

theorem table_apply (x : FVec Ideal S32x8 .f32) (g : Fin 2) (a : Fin 5) (h : Fin 4) (i k : Fin 128) :
    table x (ix4 g a (row h i) k) = Cert.Win.bias (fun b => x (ix2 b (head g h)))
      (128#32 * BitVec.ofNat 32 a + BitVec.ofNat 32 i - BitVec.ofNat 32 k) := by
  have hi : (⟨(row h i).val % 128, Nat.mod_lt _ (by decide)⟩ : Fin 128) = i := Fin.ext (by show (128 * h.val + i.val) % 128 = i.val; omega)
  have hh : g.val * 4 + (row h i).val / 128 = (head g h).val := by show g.val * 4 + (128 * h.val + i.val) / 128 = 4 * g.val + h.val; omega
  pointwise [table]
  rw [gather_apply, insides_apply]
  simp only [hi, hh]
  rw [dist_apply]
  have hw : broadcastInDim S5x128x128x1 ![0, 1, 2] bcast_S5x128x128_S5x128x128x1_0_1_2 wrapped (ix4 a i k 0)
      = Cert.Win.wrap (Cert.Win.bucket (128#32 * BitVec.ofNat 32 a + BitVec.ofNat 32 i - BitVec.ofNat 32 k)) := by
    rw [← dist_apply, ← wrapped_apply]
    pointwise
  rw [hw]
  exact congrArg (Scalar.select _ _) ninf

end Cert.WinIdeal.Hand

end
-- ==== Proof.Win.Value.lean ====
/-
  The window attention's call: what its blocks hold at a grid point, what the chunks of a point leave in each row, and the
  array of the call. Point `t` is one group of heads of 128 tokens of one batch.
-/
module

public import proofs.«01_k».proof.Proof.Win.Steps
public import proofs.«01_k».proof.Proof.Win.Table

@[expose] public section

set_option maxRecDepth 16384

noncomputable section

namespace Cert.WinIdeal.Hand

open Cert.WinIdeal Cert.WinIdeal.Gen Cert.WinIdeal.Value Idealize.ShloMosaic Idealize.ShloMosaic.TcCoe
open Idealize.ShloMosaic.Pointwise Idealize.SL.Sem Cert.Win
open scoped BigOperators

/-- The score a chunk's block gives is over the key's 64 lanes: the query's other lanes are zero. -/
theorem pay7_lanes (v0 : Vec Ideal S1x128x256 .bf16) (v57 : Vec Ideal S1x128x128 .bf16) (v63 : Vec Ideal S1x1x512x128 .f32)
    (h : Fin 4) (r k : Fin 128) : k0_pay7 v0 v57 v63 (ix2 (row h r) k)
      = (∑ d, v0 (ix3 0 r (col h d)) * v57 (ix3 0 k (kLane d))) + v63 (ix4 0 0 (row h r) k) := by
  rw [pay7_apply, Fin.sum_univ_add (a := 64) (b := 64)]
  refine congrArg (· + v63 (ix4 0 0 (row h r) k)) ?_
  have hk (d : Fin 64) : (Fin.castAdd 64 d : Fin 128) = kLane d := rfl
  have hv (d : Fin 64) : (Fin.natAdd 64 d : Fin 128) = vLane d := rfl
  simp only [hk, hv, pay2_k, pay2_v, zero_mul, Finset.sum_const_zero, add_zero]

section
variable {S : Fin 2048 → EReal} {v : Fin 2048 → Fin 64 → EReal}

/-- A row that has seen the keys of `K`: the greatest score, the exponentials' sum, and for each lane the weighted sum. -/
def Seen (S : Fin 2048 → EReal) (v : Fin 2048 → Fin 64 → EReal) (a : Carried) (r : Fin 512) (K : Finset (Fin 2048)) : Prop :=
  a.1 (ix2 r 0) = best S K ∧ a.2.1 (ix2 r 0) = mass S K ∧ ∀ d, a.2.2 (ix2 r (vLane d)) = mix S (fun k => v k d) K

theorem seen_start (r : Fin 512) : Seen S v start r ∅ := by
  refine ⟨?_, ?_, fun d => ?_⟩
  · pointwise [k0_pay3]
    rfl
  · pointwise [k0_pay4]
    exact Finset.sum_empty.symm
  · pointwise [k0_pay5]
    exact Finset.sum_empty.symm

/-- A chunk of further keys. -/
theorem seen_step (hS : ∀ k, S k ≠ ⊤) {v0 : Vec Ideal S1x128x256 .bf16} {v57 : Vec Ideal S1x128x128 .bf16}
    {v63 : Vec Ideal S1x1x512x128 .f32} {a : Carried} {r : Fin 512} {K : Finset (Fin 2048)} {c : Fin 16}
    (hd : Disjoint K (chunk c)) (hs : ∀ k, k0_pay7 v0 v57 v63 (ix2 r k) = S (key c k))
    (hv : ∀ k d, v57 (ix3 0 k (vLane d)) = v (key c k) d) (h : Seen S v a r K) :
    Seen S v (stepOf v0 v57 v63 a) r (K ∪ chunk c) := by
  obtain ⟨hm, hl, ha⟩ := h
  have h8 : k0_pay8 v0 a.1 v57 v63 (ix2 r 0) = best S (K ∪ chunk c) := by
    rw [pay8_apply, best_union, hm]
    refine congrArg (max _) ?_
    unfold best chunk
    rw [Finset.sup_map]
    exact Finset.sup_congr rfl fun k _ => hs k
  refine ⟨h8, ?_, fun d => ?_⟩
  · show k0_pay11 v0 a.1 a.2.1 v57 v63 (ix2 r 0) = _
    rw [pay11_apply, pay9_apply, h8, hm, hl, mass_union hS hd]
    unfold chunk
    rw [Finset.sum_map]
    simp only [pay10_apply, h8, hs]
    rfl
  · show k0_pay12 v0 a.1 a.2.2 v57 v63 (ix2 r (vLane d)) = _
    rw [pay12_apply, pay9_apply, h8, hm, ha, mix_union _ hS hd]
    unfold chunk
    rw [Finset.sum_map]
    simp only [pay10_apply, h8, hs, hv]
    rfl

end

variable (m : (ℓ : Loc nD τ sig) → Buf (Elt Ideal) ℓ)

theorem lt_N (t : Fin cfg0.N) : t.val < 512 := t.isLt

/-- The batch of a point. -/
def batch (t : Fin cfg0.N) : Fin 16 := ⟨t.val / 32, by have := lt_N t; omega⟩
/-- Its group of heads. -/
def group (t : Fin cfg0.N) : Fin 2 := ⟨t.val / 16 % 2, by omega⟩
/-- Its block of tokens. -/
def block (t : Fin cfg0.N) : Fin 16 := ⟨t.val % 16, by omega⟩

theorem index (t : Fin cfg0.N) :
    (win0_0.index t = ![(batch t).val, (block t).val, (group t).val] ∧ win0_1.index t = ![(batch t).val, 0, 2 + (group t).val]
      ∧ win0_2.index t = ![(group t).val, 0, 0, 0])
    ∧ (win0_3.index t = ![(batch t).val, (block t).val, (group t).val] ∧ win0_4.index t = ![(batch t).val, (block t).val, (group t).val]
      ∧ (grid0.coords t 2).val = (block t).val) := by
  revert t; decide +kernel

/-- The token `r` of a block. -/
def tok (t : Fin cfg0.N) (r : Fin 128) : Fin 2048 := ⟨128 * block t + r, by omega⟩
/-- Column `d` of head `h` of a group. -/
def qcol (g : Fin 2) (h : Fin 4) (d : Fin 64) : Fin 512 := ⟨256 * g + 64 * h + d, by omega⟩
/-- The key's column `d` of a group. -/
def kcol (g : Fin 2) (d : Fin 64) : Fin 512 := ⟨256 + 128 * g + d, by omega⟩
/-- The value's column `d` of a group. -/
def vcol (g : Fin 2) (d : Fin 64) : Fin 512 := ⟨256 + 128 * g + 64 + d, by omega⟩
/-- The gate's column of head `h` of a group. -/
def gcol (g : Fin 2) (h : Fin 4) : Fin 256 := ⟨128 * g + 8 + h, by omega⟩

theorem iblk0 (c : Dev nD) (t : Fin cfg0.N) (h : Fin 4) (r : Fin 128) (d : Fin 64) :
    iblk m c 0 t (ix3 0 r (col h d)) = m ((c : Thread nD τ).loc main_arg0) (ix3 (batch t) (tok t r) (qcol (group t) h d)) := by
  obtain ⟨⟨h0, h1, h2⟩, h3, h4, h5⟩ := index t
  blk_ext [iblk, V, h0, tok, qcol, col]

theorem iblk1_k (c : Dev nD) (t : Fin cfg0.N) (k : Fin 2048) (d : Fin 64) :
    iblk m c 1 t (ix3 0 k (kLane d)) = m ((c : Thread nD τ).loc main_arg1) (ix3 (batch t) k (kcol (group t) d)) := by
  obtain ⟨⟨h0, h1, h2⟩, h3, h4, h5⟩ := index t
  blk_ext [iblk, V, h1, kcol, kLane]

theorem iblk1_v (c : Dev nD) (t : Fin cfg0.N) (k : Fin 2048) (d : Fin 64) :
    iblk m c 1 t (ix3 0 k (vLane d)) = m ((c : Thread nD τ).loc main_arg1) (ix3 (batch t) k (vcol (group t) d)) := by
  obtain ⟨⟨h0, h1, h2⟩, h3, h4, h5⟩ := index t
  blk_ext [iblk, V, h1, vcol, vLane]

theorem iblk2 (c : Dev nD) (t : Fin cfg0.N) (a : Fin 5) (h : Fin 4) (r k : Fin 128) :
    iblk m c 2 t (ix4 0 a (row h r) k) = bias (fun b => m ((c : Thread nD τ).loc main_arg3) (ix2 b (head (group t) h)))
      (128#32 * BitVec.ofNat 32 a + BitVec.ofNat 32 r - BitVec.ofNat 32 k) := by
  obtain ⟨⟨h0, h1, h2⟩, h3, h4, h5⟩ := index t
  have e : iblk m c 2 t (ix4 0 a (row h r) k) = V m c main_v50 (ix4 (group t) a (row h r) k) := by blk_ext [iblk, h2]
  rw [e, V_table]
  exact table_apply _ _ _ _ _ _

theorem iblk3 (c : Dev nD) (t : Fin cfg0.N) (h : Fin 4) (r : Fin 128) :
    iblk m c 3 t (ix3 0 r ⟨8 + h, by omega⟩) = m ((c : Thread nD τ).loc main_arg2) (ix3 (batch t) (tok t r) (gcol (group t) h)) := by
  obtain ⟨⟨h0, h1, h2⟩, h3, h4, h5⟩ := index t
  blk_ext [iblk, V, h3, tok, gcol]

section
variable (x0 x1 : FVec Ideal S16x2048x512 .bf16) (x2 : FVec Ideal S16x2048x256 .f32) (x3 : FVec Ideal S32x8 .f32)

/-- Real queries, keys and biases. -/
structure Real : Prop where
  q : ∀ b t j, ∃ r : ℝ, x0 (ix3 b t j) = r
  k : ∀ b t g d, ∃ r : ℝ, x1 (ix3 b t (kcol g d)) = r
  e : ∀ a h, ∃ r : ℝ, x3 (ix2 a h) = r

variable (b : Fin 16) (t : Fin 2048) (g : Fin 2) (h : Fin 4)

/-- The scores of a head at a token. -/
def scores : Fin 2048 → EReal :=
  score (fun d => x0 (ix3 b t (qcol g h d))) (fun k d => x1 (ix3 b k (kcol g d))) (fun a => x3 (ix2 a (head g h))) t

/-- The values of a head's group. -/
def values (k : Fin 2048) (d : Fin 64) : EReal := x1 (ix3 b k (vcol g d))

/-- The call's result at a token: lane `d` of a head's answer. -/
def result (d : Fin 64) : EReal :=
  answer (fun d => x0 (ix3 b t (qcol g h d))) (fun k d => x1 (ix3 b k (kcol g d))) (fun k => values x1 b g k d)
    (fun a => x3 (ix2 a (head g h))) (x2 (ix3 b t (gcol g h))) t

variable {x0 x1 x3} (hx : Real x0 x1 x3)
include hx

theorem scores_ne_top (k : Fin 2048) : scores x0 x1 x3 b t g h k ≠ ⊤ :=
  score_ne_top _ _ _ t (fun d => hx.q _ _ _) (fun k d => hx.k _ _ _ _) (fun a => hx.e _ _) k

end

/-- What a row carries before trip `n` of a point: it has seen the first `n` of the point's chunks. -/
theorem carried_seen (c : Dev nD) (hx : Real (m ((c : Thread nD τ).loc main_arg0)) (m ((c : Thread nD τ).loc main_arg1)) (m ((c : Thread nD τ).loc main_arg3)))
    (t : Fin cfg0.N) (h : Fin 4) (r : Fin 128) (n : ℕ) (hn : n ≤ (grid0.coords t 2).val + 1 - first (grid0.coords t)) :
    Seen (scores (m ((c : Thread nD τ).loc main_arg0)) (m ((c : Thread nD τ).loc main_arg1)) (m ((c : Thread nD τ).loc main_arg3)) (batch t) (tok t r) (group t) h)
      (values (m ((c : Thread nD τ).loc main_arg1)) (batch t) (group t))
      (carried c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) n)
      (row h r) (span (first (grid0.coords t)) n) := by
  induction n with
  | zero => rw [span_zero, carried_zero]; exact seen_start _
  | succ n ih =>
    have hb : (grid0.coords t 2).val = (block t).val := (index t).2.2.2
    have hlt : first (grid0.coords t) + n < 16 := by have := (block t).isLt; omega
    have hf : first (grid0.coords t) = (block t).val - 4 := by unfold first; rw [hb]
    have hk : n < (k0_t1_loop (grid0.coords t)).trips := by
      have e : (k0_t1_loop (grid0.coords t)).trips = (grid0.coords t 2).val + 1 - first (grid0.coords t) := trips_one _
      omega
    obtain ⟨o1, o2⟩ := offsets (grid0.coords t) ⟨n, hk⟩
    rw [span_succ _ n ⟨first (grid0.coords t) + n, hlt⟩ rfl,
      carried_succ c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) ⟨n, hk⟩]
    have l1 (k j : Fin 128) : View.ld (iblk m c 1 t) (Rect.unit (s := S1x2048x128) (k0_off1 (grid0.coords t) ⟨n, hk⟩) S1x128x128.size
        (k0_off1_inb (grid0.coords t) ⟨n, hk⟩)) (ix3 0 k j) = iblk m c 1 t (ix3 0 (key ⟨first (grid0.coords t) + n, hlt⟩ k) j) :=
      View.ld_unit_apply_of _ _ _ _ _ _ fun a => Eq.trans (by fin_cases a <;> simp [key] <;> rfl) (congrArg (· + (ix3 (0 : Fin 1) k j a).val) (congrFun o1 a).symm)
    have l2 (k : Fin 128) : View.ld (iblk m c 2 t) (Rect.unit (s := S1x5x512x128) (k0_off2 (grid0.coords t) ⟨n, hk⟩) S1x1x512x128.size
        (k0_off2_inb (grid0.coords t) ⟨n, hk⟩)) (ix4 0 0 (row h r) k)
          = iblk m c 2 t (ix4 0 ⟨(grid0.coords t 2).val - (first (grid0.coords t) + n), by omega⟩ (row h r) k) :=
      View.ld_unit_apply_of _ _ _ _ _ _ fun a => Eq.trans (by fin_cases a <;> simp) (congrArg (· + (ix4 (0 : Fin 1) (0 : Fin 1) (row h r) k a).val) (congrFun o2 a).symm)
    refine seen_step (scores_ne_top _ _ _ _ hx) (span_disjoint _ n _ rfl) (fun k => ?_) (fun k d => ?_) (ih (by omega))
    · rw [pay7_lanes, l2, iblk2, away_chunk (first (grid0.coords t) + n)]
      simp only [l1, iblk0, iblk1_k]
      unfold scores score
      refine congrArg (fun w => _ + bias _ w) (congrArg₂ away ?_ rfl)
      show 128 * (first (grid0.coords t) + n + ((grid0.coords t 2).val - (first (grid0.coords t) + n))) + r.val = 128 * (block t).val + r.val
      omega
    · rw [l1, iblk1_v]
      rfl

/-- The block a point leaves. -/
theorem after_apply (c : Dev nD) (hx : Real (m ((c : Thread nD τ).loc main_arg0)) (m ((c : Thread nD τ).loc main_arg1)) (m ((c : Thread nD τ).loc main_arg3)))
    (t : Fin cfg0.N) (h : Fin 4) (r : Fin 128) (d : Fin 64) :
    out0_A_4 c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix3 0 r (col h d))
      = result (m ((c : Thread nD τ).loc main_arg0)) (m ((c : Thread nD τ).loc main_arg1)) (m ((c : Thread nD τ).loc main_arg2))
          (m ((c : Thread nD τ).loc main_arg3)) (batch t) (tok t r) (group t) h d := by
  obtain ⟨-, hl, ha⟩ := carried_seen m c hx t h r _ le_rfl
  have hb : (grid0.coords t 2).val = (block t).val := (index t).2.2.2
  have hf : first (grid0.coords t) = (block t).val - 4 := by unfold first; rw [hb]
  have hout (k : Fin 2048) (hk : k ∉ span (first (grid0.coords t)) ((grid0.coords t 2).val + 1 - first (grid0.coords t))) :
      scores (m ((c : Thread nD τ).loc main_arg0)) (m ((c : Thread nD τ).loc main_arg1)) (m ((c : Thread nD τ).loc main_arg3)) (batch t) (tok t r) (group t) h k = ⊥ := by
    refine score_out _ _ _ _ fun hw => hk ?_
    have ht : (tok t r).val = 128 * (block t).val + r.val := rfl
    have hr := r.isLt
    simp only [span, Finset.mem_filter, Finset.mem_univ, true_and]
    omega
  rw [out_eq, hl, ha, mass_of_bot hout, mix_of_bot _ hout, iblk3]
  rfl

/-- The array of the call. -/
def G (c : Dev nD) : FVec Ideal S16x2048x512 .bf16 := fun i =>
  result (m ((c : Thread nD τ).loc main_arg0)) (m ((c : Thread nD τ).loc main_arg1)) (m ((c : Thread nD τ).loc main_arg2))
    (m ((c : Thread nD τ).loc main_arg3)) (i 0) (i 1) ⟨(i 2).val / 256, by have : (i 2).val < 512 := (i 2).isLt; omega⟩
    ⟨(i 2).val % 256 / 64, by omega⟩ ⟨(i 2).val % 64, by omega⟩

theorem G_apply (c : Dev nD) (b : Fin 16) (t : Fin 2048) (g : Fin 2) (h : Fin 4) (d : Fin 64) : G m c (ix3 b t (qcol g h d))
    = result (m ((c : Thread nD τ).loc main_arg0)) (m ((c : Thread nD τ).loc main_arg1)) (m ((c : Thread nD τ).loc main_arg2))
        (m ((c : Thread nD τ).loc main_arg3)) b t g h d := by
  have e1 : (⟨(qcol g h d).val / 256, by omega⟩ : Fin 2) = g := Fin.ext (by simp only [qcol]; omega)
  have e2 : (⟨(qcol g h d).val % 256 / 64, by omega⟩ : Fin 4) = h := Fin.ext (by simp only [qcol]; omega)
  have e3 : (⟨(qcol g h d).val % 64, by omega⟩ : Fin 64) = d := Fin.ext (by simp only [qcol]; omega)
  show result _ _ _ _ b t ⟨(qcol g h d).val / 256, _⟩ ⟨(qcol g h d).val % 256 / 64, _⟩ ⟨(qcol g h d).val % 64, _⟩ = _
  rw [e1, e2, e3]

theorem final (c : Dev nD) (hx : Real (m ((c : Thread nD τ).loc main_arg0)) (m ((c : Thread nD τ).loc main_arg1)) (m ((c : Thread nD τ).loc main_arg3))) :
    (dats m 0 c).arrAt 4 cfg0.N = G m c := by
  refine (dats m 0 c).arrAt_eq_of_covers 4 _ (by decide +kernel) fun t hf y => ?_
  obtain ⟨⟨h0, h1, h2⟩, h3, h4, h5⟩ := index t
  obtain ⟨r, j, rfl⟩ : ∃ (r : Fin 128) (j : Fin 256), y = ix3 0 r j := ⟨y 1, y 2, (eq_ix3 y).trans (congrArg (fun a => ix3 a (y 1) (y 2)) (Fin.ext (Nat.lt_one_iff.mp (y 0).isLt)))⟩
  obtain ⟨h, d, rfl⟩ : ∃ (h : Fin 4) (d : Fin 64), j = col h d := ⟨⟨j / 64, by omega⟩, ⟨j % 64, by omega⟩, Fin.ext (by simp only [col]; omega)⟩
  have he : ((cfg0.win 4).blk t).view.emb (ix3 0 r (col h d)) = ix3 (batch t) (tok t r) (qcol (group t) h d) := by
    blk_ext [h4, tok, qcol, col]
  rw [he, G_apply]
  blk_simp
  rw [after0_4]
  exact after_apply m c hx t h r d

end Cert.WinIdeal.Hand

end
-- ==== Proof.Win.RefValue.lean ====
/-
  The reference of the window attention's call, read at a token.
-/
module

public import proofs.«01_k».proof.Proof.Gen.WinRefIdeal.Read
public import proofs.«01_k».proof.Proof.Win.Bias
public import Idealize.ShloMosaic.Lib.Pointwise

@[expose] public section

set_option maxRecDepth 16384

noncomputable section

namespace Cert.WinRefIdeal.Hand

open Cert.WinRefIdeal Cert.WinRefIdeal.Read Idealize.ShloMosaic Idealize.ShloMosaic.Pointwise Idealize.SL.Sem Cert.Win
open scoped BigOperators

variable (x0 x1 : FVec Ideal S16x2048x512 .bf16) (x2 : FVec Ideal S16x2048x256 .f32) (x3 : FVec Ideal S32x8 .f32)

theorem v19_apply (t k : Fin 2048) : val_main_v19 (F := Ideal) (ix2 t k) = away t k := by
  pointwise [val_main_v19, val_main_v18, val_main_v17, val_main_v16, val_main_v15, val_main_v14, val_main_v13]
  rfl

theorem v24_apply (t k : Fin 2048) : val_main_v24 (F := Ideal) (ix2 t k) = inside (away t k) := by
  pointwise [val_main_v24, val_main_v23, val_main_v22, val_main_v21, val_main_v20, val_main_c, val_main_c_1]
  simp only [v19_apply]
  rfl

theorem v49_apply (t k : Fin 2048) : val_main_v49 (F := Ideal) (ix2 t k) = wrap (bucket (away t k)) := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26, val_main_v25, val_main_c_2, val_main_c_3, val_main_cst_4,
    val_main_cst_5, val_main_cst_6, val_main_c_7, val_main_c_8, val_main_c_9, val_main_c_10, val_main_c_11]
  simp only [v19_apply]
  rfl

/-- The biases gathered: for a distance the row of the table that the index array names. -/
theorem gather_apply (x : FVec Ideal S32x8 .f32) (idx : IVec S2048x2048x1 32) (i k : Fin 2048) (h : Fin 8) :
    Host.gather gather_S32x8_S2048x2048x1_S2048x2048x8_2_0_n_n_0_2_18 x idx (ix3 i k h) = x (ix2 (entry (idx (ix3 i k 0))) h) := by
  unfold Host.gather
  refine congrArg x (funext fun b => Fin.ext ?_)
  let d := gather_S32x8_S2048x2048x1_S2048x2048x8_2_0_n_n_0_2_18
  show d.start (ix3 i k h) idx b + d.batchCoord (ix3 i k h) b + d.offCoord (ix3 i k h) b = _
  rw [GatherDims.batchCoord_eq_zero _ _ _ (show b ∉ d.operandBatchingDims from List.not_mem_nil)]
  have hb : b = 0 ∨ b = 1 := by
    match b with
    | ⟨0, _⟩ => exact .inl rfl
    | ⟨1, _⟩ => exact .inr rfl
  rcases hb with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix3 i k h) ⟨List.idxOf (0 : Fin 2) d.startIndexMap,
        List.idxOf_lt_length_iff.2 (List.mem_singleton.mpr rfl)⟩ = ix3 i k 0 := by
      funext b
      refine Fin.ext ?_
      match b with
      | ⟨0, _⟩ => rfl
      | ⟨1, _⟩ => rfl
      | ⟨2, _⟩ => rfl
    rw [hsi]
    rfl
  · unfold GatherDims.start GatherDims.offCoord
    rw [dif_neg (show (1 : Fin 2) ∉ d.startIndexMap from show (1 : Fin 2) ∉ ([0] : List (Fin 2)) by decide),
      dif_pos (show (1 : Fin 2) ∈ d.sKept from (GatherDims.mem_sKept d _).mpr ⟨show (1 : Fin 2) ∉ ([0] : List (Fin 2)) by decide, List.not_mem_nil⟩)]
    exact Nat.zero_add _

/-- Column `d` of head `h` of a group. -/
def qcol (g : Fin 2) (h : Fin 4) (d : Fin 64) : Fin 512 := ⟨256 * g + 64 * h + d, by omega⟩
/-- The key's column `d` of a group. -/
def kcol (g : Fin 2) (d : Fin 64) : Fin 512 := ⟨256 + 128 * g + d, by omega⟩
/-- The value's column `d` of a group. -/
def vcol (g : Fin 2) (d : Fin 64) : Fin 512 := ⟨256 + 128 * g + 64 + d, by omega⟩
/-- The gate's column of head `h` of a group. -/
def gcol (g : Fin 2) (h : Fin 4) : Fin 256 := ⟨128 * g + 8 + h, by omega⟩
/-- Head `h` of group `g`. -/
def head (g : Fin 2) (h : Fin 4) : Fin 8 := ⟨4 * g + h, by omega⟩

theorem v53_apply (g : Fin 2) (h : Fin 4) (t k : Fin 2048) :
    val_main_v53 (F := Ideal) x3 (ix4 g h t k) = x3 (ix2 (entry (wrap (bucket (away t k)))) (head g h)) := by
  pointwise [val_main_v53, val_main_v52, val_main_v51]
  rw [gather_apply]
  have hw : val_main_v50 (F := Ideal) (ix3 t k 0) = wrap (bucket (away t k)) := by
    pointwise [val_main_v50]
    exact v49_apply t k
  rw [hw]
  exact congrArg (fun j => x3 (ix2 _ j)) (Fin.ext (by show _ = 4 * g.val + h.val; dsimp only; omega))

theorem v1_apply (b : Fin 16) (t : Fin 2048) (g : Fin 2) (h : Fin 4) (d : Fin 64) :
    val_main_v1 (F := Ideal) x0 (ix5 b t g h d) = x0 (ix3 b t (qcol g h d)) := by
  pointwise [val_main_v1, val_main_v0]
  exact congrArg (fun j => x0 (ix3 b t j)) (Fin.ext (by show _ = 256 * g.val + 64 * h.val + d.val; dsimp only; omega))

theorem v55_apply (b : Fin 16) (k : Fin 2048) (g : Fin 2) (d : Fin 64) :
    val_main_v55 (F := Ideal) x1 (ix4 b k g d) = x1 (ix3 b k (kcol g d)) := by
  pointwise [val_main_v55, val_main_v54, val_main_v4, val_main_v3, val_main_v2]
  exact congrArg (fun j => x1 (ix3 b k j)) (Fin.ext (by show _ = 256 + 128 * g.val + d.val; dsimp only; omega))

theorem v75_apply (b : Fin 16) (k : Fin 2048) (g : Fin 2) (d : Fin 64) :
    val_main_v75 (F := Ideal) x1 (ix4 b k g d) = x1 (ix3 b k (vcol g d)) := by
  pointwise [val_main_v75, val_main_v74, val_main_v4, val_main_v3, val_main_v2]
  exact congrArg (fun j => x1 (ix3 b k j)) (Fin.ext (by show _ = 256 + 128 * g.val + 64 + d.val; dsimp only; omega))

section
variable (b : Fin 16) (t : Fin 2048) (g : Fin 2) (h : Fin 4)

/-- The scores of a head at a token. -/
def scores : Fin 2048 → EReal :=
  score (fun d => x0 (ix3 b t (qcol g h d))) (fun k d => x1 (ix3 b k (kcol g d))) (fun a => x3 (ix2 a (head g h))) t

theorem v57_apply (k : Fin 2048) :
    val_main_v57 (F := Ideal) x0 x1 (ix5 b g h t k) = ∑ d, x0 (ix3 b t (qcol g h d)) * x1 (ix3 b k (kcol g d)) := by
  pointwise [val_main_v57, val_main_v56]
  simp only [v55_apply, v1_apply]
  exact Finset.sum_congr rfl fun d _ => mul_comm _ _

theorem ninf : Ideal.ofBits .f32 0xFF800000#32 = ⊥ := by simp [Ideal.ofBits, Ideal.ieee]

theorem v61_apply (k : Fin 2048) : val_main_v61 (F := Ideal) x0 x1 x3 (ix5 b g h t k) = scores x0 x1 x3 b t g h k := by
  pointwise [val_main_v61, val_main_v60, val_main_v59, val_main_v58, val_main_call1_v2, val_main_call1_v1, val_main_call1_v0, val_main_cst_12]
  rw [v57_apply, v53_apply, v24_apply]
  unfold scores score bias
  have hn : id (constant (F := Ideal) S_ .f32 0xFF800000#32) ix0 = (⊥ : EReal) := ninf
  rw [hn]
  rcases BitVec.eq_zero_or_eq_one (inside (away t k)) with e | e <;> rw [e]
  · exact (EReal.add_bot _).symm
  · rfl

/-- The greatest entry along the last axis, from an initial value. -/
theorem reduceMax (y : FVec Ideal S16x2x4x2048x2048 .f32) (z : FVec Ideal S_ .f32) :
    Host.reduce FloatOps.maximumf y z Gen.reducesTo_S16x2x4x2048x2048_S16x2x4x2048_d4 Gen.h_S_ (ix4 b g h t)
      = (Finset.univ : Finset (Fin 2048)).fold max (z ix0) fun k => y (ix5 b g h t k) := by
  pointwise
  exact congrArg (fun i => (Finset.univ : Finset (Fin 2048)).fold max (z i) fun k => y (ix5 b g h t k)) (funext fun a => a.elim0)

theorem fold_bot (f : Fin 2048 → EReal) : (Finset.univ : Finset (Fin 2048)).fold max ⊥ f = Finset.univ.sup f := rfl

theorem v62_apply : val_main_v62 (F := Ideal) x0 x1 x3 (ix4 b g h t) = best (scores x0 x1 x3 b t g h) Finset.univ := by
  unfold val_main_v62 best
  generalize hy : val_main_v61 (F := Ideal) x0 x1 x3 = y
  have hz : val_main_cst_13 (F := Ideal) ix0 = (⊥ : EReal) := ninf
  rw [reduceMax, hz, fold_bot]
  exact Finset.sup_congr rfl fun k _ => by rw [← hy, v61_apply]

theorem v64_apply : val_main_v64 (F := Ideal) x0 x1 x3 (ix4 b g h t) = best (scores x0 x1 x3 b t g h) Finset.univ := by
  have h63 : val_main_v63 (F := Ideal) (ix4 b g h t) = (⊥ : EReal) := by
    pointwise [val_main_v63, val_main_cst_14]
    exact ninf
  rw [val_main_v64_apply, v62_apply, h63]
  generalize best (scores x0 x1 x3 b t g h) Finset.univ = z
  exact bot_sup_eq z

theorem v68_apply (k : Fin 2048) : val_main_v68 (F := Ideal) x0 x1 x3 (ix5 b g h t k)
    = Ideal.exp (scores x0 x1 x3 b t g h k - best (scores x0 x1 x3 b t g h) Finset.univ) := by
  pointwise [val_main_v68, val_main_v67, val_main_v66, val_main_v65]
  rw [v61_apply, v64_apply]

theorem v69_apply : val_main_v69 (F := Ideal) x0 x1 x3 (ix4 b g h t) = mass (scores x0 x1 x3 b t g h) Finset.univ := by
  pointwise [val_main_v69, val_main_cst_15]
  simp only [v68_apply]
  rfl

/-- A key's weight: its exponential over the exponentials' sum. -/
def weight (k : Fin 2048) : EReal :=
  Ideal.div (Ideal.exp (scores x0 x1 x3 b t g h k - best (scores x0 x1 x3 b t g h) Finset.univ)) (mass (scores x0 x1 x3 b t g h) Finset.univ)

theorem v72_apply (k : Fin 2048) : val_main_v72 (F := Ideal) x0 x1 x3 (ix5 b g h t k) = weight x0 x1 x3 b t g h k := by
  pointwise [val_main_v72, val_main_v71, val_main_v70]
  rw [v68_apply, v69_apply]
  rfl

/-- The masked weight is the weight: a key outside the window has the weight zero. -/
theorem v73_apply (hm : ∃ r : ℝ, 0 < r ∧ mass (scores x0 x1 x3 b t g h) Finset.univ = r) (k : Fin 2048) :
    val_main_v73 (F := Ideal) x0 x1 x3 (ix5 b g h t k) = weight x0 x1 x3 b t g h k := by
  obtain ⟨r, hr, hm⟩ := hm
  pointwise [val_main_v73, val_main_call2_v2, val_main_call2_v1, val_main_call2_v0, val_main_cst_16]
  rw [v72_apply, v24_apply]
  rcases BitVec.eq_zero_or_eq_one (inside (away t k)) with e | e <;> rw [e]
  · have hs : scores x0 x1 x3 b t g h k = ⊥ := by
      refine score_out _ _ _ _ fun hw => ?_
      rw [inside_eq, if_pos hw] at e
      exact absurd e (by decide)
    unfold weight
    rw [hs, hm, EReal.bot_sub, exp_bot, Ideal.div_coe hr.ne', zero_mul]
    exact Ideal.ofBits_zero_f32
  · rfl

theorem v77_apply (hm : ∃ r : ℝ, 0 < r ∧ mass (scores x0 x1 x3 b t g h) Finset.univ = r) (d : Fin 64) :
    val_main_v77 (F := Ideal) x0 x1 x3 (ix5 b t g h d) = ∑ k, x1 (ix3 b k (vcol g d)) * weight x0 x1 x3 b t g h k := by
  pointwise [val_main_v77, val_main_v76]
  simp only [v75_apply, v73_apply x0 x1 x3 b t g h hm]

theorem v79_apply (d : Fin 64) : val_main_v79 (F := Ideal) x2 (ix5 b t g h d) = Ideal.logistic (x2 (ix3 b t (gcol g h))) := by
  pointwise [val_main_v79, val_main_v78, val_main_v12, val_main_v11, val_main_v10, val_main_v9, val_main_v8, val_main_v7, val_main_v6,
    val_main_v5, val_main_cst, val_main_cst_0]
  exact congrArg (fun j => Ideal.logistic (x2 (ix3 b t j))) (Fin.ext (by show g.val * 128 + (8 + h.val) = 128 * g.val + 8 + h.val; omega))

theorem v82_apply (d : Fin 64) :
    val_main_v82 (F := Ideal) x0 x1 x2 x3 (ix3 b t (qcol g h d))
      = val_main_v79 (F := Ideal) x2 (ix5 b t g h d) * val_main_v77 (F := Ideal) x0 x1 x3 (ix5 b t g h d) := by
  pointwise [val_main_v82, val_main_v81, val_main_v80]
  have e1 : (⟨(qcol g h d).val / 256, by omega⟩ : Fin 2) = g := Fin.ext (by simp only [qcol]; omega)
  have e2 : (⟨(qcol g h d).val / 64 % 4, by omega⟩ : Fin 4) = h := Fin.ext (by simp only [qcol]; omega)
  have e3 : (⟨(qcol g h d).val % 64, by omega⟩ : Fin 64) = d := Fin.ext (by simp only [qcol]; omega)
  rw [e1, e2, e3]

end

end Cert.WinRefIdeal.Hand

end
-- ==== Proof.Win.Equal.lean ====
/-
  The window attention's call and its reference leave the same array, where the queries, the keys and the biases are real:
  the kernel's weighted sum over the exponentials' sum is the reference's sum of the values with their weights.
-/
module

public import proofs.«01_k».proof.Pre_scores_finite
public import proofs.«01_k».proof.Proof.Moe.Equal
public import proofs.«01_k».proof.Proof.Win.Value
public import proofs.«01_k».proof.Proof.Win.RefValue

@[expose] public section

set_option maxRecDepth 16384

noncomputable section

namespace Cert.WinIdeal.Hand

open Cert.WinIdeal Idealize.ShloMosaic Idealize.ShloMosaic.TcCoe Idealize.ShloMosaic.Pointwise Idealize.SL.Sem Cert.Win
open scoped BigOperators

/-- The side conditions of the precondition's operations. -/
theorem preFacts : Cert.Pre_scores_finite.Facts where
  bitsLt_bf16_f32 := by decide
  shapeCasts_S16x2048x512_S16x2048x4x128 := by decide
  slices_S16x2048x4x128_S16x2048x2x64_0_0_2_0 := by decide
  bcast_S_S16x2048x512 := by decide
  bcast_S_S16x2048x2x64 := by decide
  bcast_S_S32x8 := by decide

/-- The keys the precondition speaks of: of each group the first 64 of its 128 columns. -/
theorem keys_apply [Cert.Pre_scores_finite.Facts] (x1 : FVec Ideal S16x2048x512 .bf16) (b : Fin 16) (k : Fin 2048) (g : Fin 2) (d : Fin 64) :
    extractStridedSlice Cert.Pre_scores_finite.S16x2048x2x64 ![0, 0, 2, 0] (shapeCast Cert.Pre_scores_finite.S16x2048x4x128
        (extf .f32 x1 Cert.Pre_scores_finite.Facts.bitsLt_bf16_f32) Cert.Pre_scores_finite.Facts.shapeCasts_S16x2048x512_S16x2048x4x128)
      Cert.Pre_scores_finite.Facts.slices_S16x2048x4x128_S16x2048x2x64_0_0_2_0 (ix4 b k g d) = x1 (ix3 b k (kcol g d)) := by
  pointwise
  exact congrArg (fun j => x1 (ix3 b k j)) (Fin.ext (by show (2 + g.val) * 128 + d.val = 256 + 128 * g.val + d.val; omega))

/-- The precondition gives real queries, keys and biases. -/
theorem real_of_pre [Cert.Pre_scores_finite.Facts] (x0 x1 : FVec Ideal S16x2048x512 .bf16) (x2 : FVec Ideal S16x2048x256 .f32) (x3 : FVec Ideal S32x8 .f32)
    (h0 : (Cert.Pre_scores_finite.fn x0 x1 x2 x3).1 = fun _ => 1#1) (h1 : (Cert.Pre_scores_finite.fn x0 x1 x2 x3).2.1 = fun _ => 1#1)
    (h3 : (Cert.Pre_scores_finite.fn x0 x1 x2 x3).2.2 = fun _ => 1#1) : Real x0 x1 x3 where
  q b t j := Cert.Equal.real_of_olt _ _ _ h0 (ix3 b t j)
  k b t g d := by
    rw [← keys_apply x1 b t g d]
    exact Cert.Equal.real_of_olt _ _ _ h1 (ix4 b t g d)
  e a h := Cert.Equal.real_of_olt _ _ _ h3 (ix2 a h)

variable (m : (ℓ : Loc nD τ sig) → Buf (Elt Ideal) ℓ)

theorem results (c : Dev nD) (hx : Real (m ((c : Thread nD τ).loc main_arg0)) (m ((c : Thread nD τ).loc main_arg1)) (m ((c : Thread nD τ).loc main_arg3))) :
    Cert.WinRefIdeal.Read.val_main_v82 (F := Ideal) (m ((c : Thread nD τ).loc main_arg0)) (m ((c : Thread nD τ).loc main_arg1))
        (m ((c : Thread nD τ).loc main_arg2)) (m ((c : Thread nD τ).loc main_arg3)) = G m c := by
  refine funext fun i => ?_
  obtain ⟨b, t, j, rfl⟩ : ∃ (b : Fin 16) (t : Fin 2048) (j : Fin 512), i = ix3 b t j := ⟨i 0, i 1, i 2, eq_ix3 i⟩
  obtain ⟨g, h, d, rfl⟩ : ∃ (g : Fin 2) (h : Fin 4) (d : Fin 64), j = qcol g h d :=
    ⟨⟨j / 256, by omega⟩, ⟨j % 256 / 64, by omega⟩, ⟨j % 64, by omega⟩, Fin.ext (by simp only [qcol]; omega)⟩
  have hS := scores_ne_top b t g h hx
  have hd : scores (m ((c : Thread nD τ).loc main_arg0)) (m ((c : Thread nD τ).loc main_arg1)) (m ((c : Thread nD τ).loc main_arg3)) b t g h t ≠ ⊥ := by
    obtain ⟨r, hr⟩ := score_real _ _ _ t (fun d => hx.q b t (qcol g h d)) (fun k d => hx.k b k g d) (fun a => hx.e a (head g h))
      (key := t) ⟨le_rfl, by omega⟩
    exact fun e => EReal.coe_ne_bot r (hr.symm.trans e)
  rw [G_apply]
  refine (Cert.WinRefIdeal.Hand.v82_apply _ _ _ _ b t g h d).trans ?_
  rw [Cert.WinRefIdeal.Hand.v79_apply, Cert.WinRefIdeal.Hand.v77_apply _ _ _ b t g h (mass_real hS (Finset.mem_univ t) hd), mul_comm]
  exact congrArg (· * _) (mix_div (fun k => values _ b g k d) hS (Finset.mem_univ t) hd).symm

end Cert.WinIdeal.Hand

end
-- ==== Proof.Ada.Value.lean ====
/-
  The modulation's call: what its blocks hold at a grid point, what its body computes from them, and the array it leaves.
  Point `t` holds layer `t / 6` and, of its six modulations, number `t % 6`.
-/
module

public import proofs.«01_k».proof.Proof.Gen.AdaIdeal.Value
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

namespace Cert.AdaIdeal.Hand

open Cert.AdaIdeal Cert.AdaIdeal.Gen Cert.AdaIdeal.Value Idealize.ShloMosaic Idealize.ShloMosaic.TcCoe
open Idealize.ShloMosaic.Pointwise Idealize.SL.Sem
open scoped BigOperators

variable (m : (ℓ : Loc nD τ sig) → Buf (Elt Ideal) ℓ)

/-- The windows' block indices at every point. -/
theorem index (t : Fin cfg0.N) :
    (win0_0.index t = ![0, 0] ∧ win0_1.index t = ![t.val / 6, 0, t.val % 6])
    ∧ (win0_2.index t = ![t.val / 6, 0, t.val % 6] ∧ win0_3.index t = ![t.val / 6, t.val % 6, 0, 0]) := by
  revert t; decide +kernel

theorem lt_N (t : Fin cfg0.N) : t.val < 24 := t.isLt

/-- The layer of point `t`. -/
def layer (t : Fin cfg0.N) : Fin 4 := ⟨t.val / 6, by have := lt_N t; omega⟩

/-- The modulation of point `t`. -/
def which (t : Fin cfg0.N) : Fin 6 := ⟨t.val % 6, by omega⟩

/-- The column of modulation `k` at channel `n`. -/
def col (k : Fin 6) (n : Fin 1024) : Fin 6144 := ⟨k.val * 1024 + n.val, by omega⟩

/-- One modulation: the condition's silu against a column of weights, and its offset. -/
def modulation (x w : Fin 1024 → EReal) (b : EReal) : EReal := (∑ q, x q * Ideal.logistic (x q) * w q) + b

theorem iblk0 (c : Dev nD) (t : Fin cfg0.N) (b : Fin 16) (q : Fin 1024) :
    iblk m c 0 t (ix2 b q) = m ((c : Thread nD τ).loc main_arg0) (ix2 b q) := by
  obtain ⟨⟨h0, h1⟩, h2, h3⟩ := index t
  blk_ext [iblk, V, h0]

theorem iblk1 (c : Dev nD) (t : Fin cfg0.N) (q n : Fin 1024) :
    iblk m c 1 t (ix3 0 q n) = m ((c : Thread nD τ).loc main_arg1) (ix3 (layer t) q (col (which t) n)) := by
  obtain ⟨⟨h0, h1⟩, h2, h3⟩ := index t
  blk_ext [iblk, V, h1, layer, which, col]

/-- The offsets as the host leaves them. -/
theorem V_offsets (c : Dev nD) : V m c main_v0 = shapeCast S4x1x6144 (m ((c : Thread nD τ).loc main_arg2)) shapeCasts_S4x6144_S4x1x6144 := by
  unfold V hostOps0
  after_results
  rfl

theorem offsets_apply (x : FVec Ideal S4x6144 .f32) (l : Fin 4) (n : Fin 6144) :
    shapeCast S4x1x6144 x shapeCasts_S4x6144_S4x1x6144 (ix3 l 0 n) = x (ix2 l n) := by
  pointwise

theorem iblk2 (c : Dev nD) (t : Fin cfg0.N) (n : Fin 1024) :
    iblk m c 2 t (ix3 0 0 n) = m ((c : Thread nD τ).loc main_arg2) (ix2 (layer t) (col (which t) n)) := by
  obtain ⟨⟨h0, h1⟩, h2, h3⟩ := index t
  have h : iblk m c 2 t (ix3 0 0 n) = V m c main_v0 (ix3 (layer t) 0 (col (which t) n)) := by
    blk_ext [iblk, h2, layer, which, col]
  rw [h, V_offsets]
  exact offsets_apply _ _ _

section
variable (x0 : Vec Ideal S16x1024 .f32) (x1 : Vec Ideal S1x1024x1024 .f32) (x2 : Vec Ideal S1x1x1024 .f32)

theorem pay1_apply (b : Fin 16) (n : Fin 1024) : k0_pay1 x0 x1 x2 (ix4 0 0 b n)
    = modulation (fun q => x0 (ix2 b q)) (fun q => x1 (ix3 0 q n)) (x2 (ix3 0 0 n)) := by
  pointwise [k0_pay1]
  rfl

theorem out_apply (b : Fin 16) (n : Fin 1024) : out0_3 x0 x1 x2 (ix4 0 0 b n)
    = modulation (fun q => x0 (ix2 b q)) (fun q => x1 (ix3 0 q n)) (x2 (ix3 0 0 n)) := by
  have e0 : View.ld x0 r0_0 = x0 := funext fun i => View.ld_unit_apply_of x0 _ _ _ i i fun a => by fin_cases a <;> simp
  have e1 : View.ld x1 r0_1 = x1 := funext fun i => View.ld_unit_apply_of x1 _ _ _ i i fun a => by fin_cases a <;> simp
  have e2 : View.ld x2 r0_2 = x2 := funext fun i => View.ld_unit_apply_of x2 _ _ _ i i fun a => by fin_cases a <;> simp
  rw [← pay1_apply, out0_3, e0, e1, e2]
  generalize (ix4 0 0 b n : S1x1x16x1024.Idx) = y
  canon_tiles x h
  exact congrArg _ (funext fun a => Fin.ext (by fin_cases a <;> simp_all))

end

/-- The array of the modulations: by layer, modulation, batch and channel. -/
def G (c : Dev nD) : FVec Ideal S4x6x16x1024 .f32 := fun i =>
  modulation (fun q => m ((c : Thread nD τ).loc main_arg0) (ix2 (i 2) q)) (fun q => m ((c : Thread nD τ).loc main_arg1) (ix3 (i 0) q (col (i 1) (i 3))))
    (m ((c : Thread nD τ).loc main_arg2) (ix2 (i 0) (col (i 1) (i 3))))

theorem final (c : Dev nD) : (dats m 0 c).arrAt 3 cfg0.N = G m c := by
  refine (dats m 0 c).arrAt_eq_of_covers 3 _ (by decide +kernel) fun t hf y => ?_
  obtain ⟨⟨h0, h1⟩, h2, h3⟩ := index t
  obtain ⟨u, v, b, n, rfl⟩ : ∃ (u v : Fin 1) (b : Fin 16) (n : Fin 1024), y = ix4 u v b n := ⟨y 0, y 1, y 2, y 3, eq_ix4 y⟩
  obtain rfl := Subsingleton.elim 0 u
  obtain rfl := Subsingleton.elim 0 v
  have he : ((cfg0.win 3).blk t).view.emb (ix4 0 0 b n) = ix4 (layer t) (which t) b n := by blk_ext [h3, layer, which]
  rw [he]
  blk_simp
  rw [after0_3]
  refine (out_apply _ _ _ b n).trans ?_
  simp only [iblk0, iblk1, iblk2]
  rfl

end Cert.AdaIdeal.Hand

end
-- ==== Proof.Ada.Equal.lean ====
/-
  The reference of the modulation's call, read at a layer, a modulation, a batch and a channel: it is the array that the
  call leaves.
-/
module

public import proofs.«01_k».proof.Proof.Gen.AdaRefIdeal.Read
public import proofs.«01_k».proof.Proof.Ada.Value

@[expose] public section

set_option maxRecDepth 16384

noncomputable section

namespace Cert.AdaRefIdeal.Hand

open Cert.AdaRefIdeal Cert.AdaRefIdeal.Read Idealize.ShloMosaic Idealize.ShloMosaic.Pointwise Idealize.SL.Sem
open Cert.AdaIdeal.Hand (col modulation)
open scoped BigOperators

variable (x0 : FVec Ideal S16x1024 .f32) (x1 : FVec Ideal S4x1024x6144 .f32) (x2 : FVec Ideal S4x6144 .f32)

theorem v0_apply (b : Fin 16) (q : Fin 1024) :
    val_main_v0 (F := Ideal) x0 (ix2 b q) = x0 (ix2 b q) * Ideal.logistic (x0 (ix2 b q)) := by
  pointwise [val_main_v0, val_main_call0_v5, val_main_call0_v4, val_main_call0_cst_0, val_main_call0_v3,
    val_main_call0_v2, val_main_call0_cst, val_main_call0_v1, val_main_call0_v0]
  rfl

theorem v5_apply (l : Fin 4) (b : Fin 16) (n : Fin 6144) : val_main_v5 (F := Ideal) x0 x1 x2 (ix3 l b n)
    = modulation (fun q => x0 (ix2 b q)) (fun q => x1 (ix3 l q n)) (x2 (ix2 l n)) := by
  pointwise [val_main_v5, val_main_v4, val_main_v3, val_main_v2, val_main_v1]
  simp only [v0_apply]
  exact congrArg (· + _) (Finset.sum_congr rfl fun q _ => mul_comm _ _)

theorem v7_apply (l : Fin 4) (k : Fin 6) (b : Fin 16) (n : Fin 1024) : val_main_v7 (F := Ideal) x0 x1 x2 (ix4 l k b n)
    = modulation (fun q => x0 (ix2 b q)) (fun q => x1 (ix3 l q (col k n))) (x2 (ix2 l (col k n))) := by
  rw [← v5_apply]
  pointwise [val_main_v7, val_main_v6]
  rfl

end Cert.AdaRefIdeal.Hand

namespace Cert.AdaIdeal.Hand

open Cert.AdaIdeal Idealize.ShloMosaic Idealize.ShloMosaic.TcCoe Idealize.ShloMosaic.Pointwise Idealize.SL.Sem

variable (m : (ℓ : Loc nD τ sig) → Buf (Elt Ideal) ℓ)

theorem results (c : Dev nD) :
    Cert.AdaRefIdeal.Read.val_main_v7 (F := Ideal) (m ((c : Thread nD τ).loc main_arg0)) (m ((c : Thread nD τ).loc main_arg1))
        (m ((c : Thread nD τ).loc main_arg2)) = G m c := by
  refine funext fun i => ?_
  obtain ⟨l, k, b, n, rfl⟩ : ∃ (l : Fin 4) (k : Fin 6) (b : Fin 16) (n : Fin 1024), i = ix4 l k b n := ⟨i 0, i 1, i 2, i 3, eq_ix4 i⟩
  exact Cert.AdaRefIdeal.Hand.v7_apply _ _ _ l k b n

end Cert.AdaIdeal.Hand

end
-- ==== Proof.lean ====
/-
  The proof of `Cert.Claim`. The frames are the generated ones; the reference's frame is its run with the results left
  out. Each value claim sets the kernel's run beside the reference's and closes the equation of their results by the
  module `Equal` of the call's directory.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.Moe.Frame
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.Up.Frame
public import proofs.«01_k».proof.Proof.Gen.Down.Frame
public import proofs.«01_k».proof.Proof.Gen.UpIdeal.Value
public import proofs.«01_k».proof.Proof.Gen.DownIdeal.Value
public import proofs.«01_k».proof.Proof.Gen.UpRefIdeal.Run
public import proofs.«01_k».proof.Proof.Gen.DownRefIdeal.Run
public import proofs.«01_k».proof.Proof.Gen.UpRefIdeal.Read
public import proofs.«01_k».proof.Proof.Gen.DownRefIdeal.Read
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.Moe.Equal
public import proofs.«01_k».proof.Proof.Up.Equal
public import proofs.«01_k».proof.Proof.Out.Equal
public import proofs.«01_k».proof.Proof.In.Equal
public import proofs.«01_k».proof.Proof.Down.Equal
public import proofs.«01_k».proof.Proof.Win.Equal
public import proofs.«01_k».proof.Proof.Ada.Equal
public import Idealize.ShloMosaic.Adequacy
public import Idealize.ShloMosaic.Init
public import Idealize.ShloMosaic.Lib.Quiescent

@[expose] public section

noncomputable section

namespace Cert.Proof

open Idealize.ShloMosaic Idealize.SL.Sem

theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem quiescent_MoeRefIdeal_pre [hPre : Cert.Pre_routing_finite.Facts] : quiescent_MoeRefIdeal_pre_routing_finite :=
  fun m ρ _ => quiescent_MoeRefIdeal m ρ trivial

theorem algebraic_MoeIdeal_MoeRefIdeal [hPre : Cert.Pre_routing_finite.Facts] :
    algebraic_MoeIdeal_MoeRefIdeal_pre_routing_finite := by
  intro m ρ m' ρ' hpre hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1, Cert.MoeRefIdeal.Read.val_main_v78_eq]
  obtain ⟨a0, a1, a2, a3, a4, a5, a6, a7, a8⟩ := hagree c
  rw [a0, a1, a2, a3, a4, a5, a6, a7, a8]
  obtain ⟨h1, h2, h6⟩ := hpre c
  exact Cert.Equal.results m c (Cert.Equal.real_of_olt _ _ _ h1) (Cert.Equal.real_of_olt _ _ _ h2) (Cert.Equal.real_of_olt _ _ _ h6)

theorem quiescent_UpRefIdeal : quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem quiescent_InRefIdeal : quiescent_InRefIdeal := fun m ρ _ =>
  (θ_run Cert.InRefIdeal.defs _ _).mono (fun r h => ⟨fun c => (h c).2.2.2.2.2, sem_eq_zero_of_no_sems (by decide) r.2⟩)
    (Cert.InRefIdeal.Value.run (F := Ideal) m ρ)

theorem quiescent_DownRefIdeal : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem algebraic_UpIdeal_UpRefIdeal : algebraic_UpIdeal_UpRefIdeal := by
  intro m ρ m' ρ' _ hagree
  refine ⟨fun c => Cert.UpIdeal.Hand.G m c, ?_, ?_⟩
  · exact (θ_run Cert.UpIdeal.defs _ _).mono (fun _ h c => ⟨(h c).1.trans (Cert.UpIdeal.Hand.final m c), (h c).2⟩)
      (Cert.UpIdeal.Value.run_blocks (F := Ideal) m ρ)
  · refine (θ_run Cert.UpRefIdeal.defs _ _).mono (fun _ h c => ⟨?_, (h c).2⟩) (Cert.UpRefIdeal.Value.run (F := Ideal) m' ρ')
    rw [(h c).1, Cert.UpRefIdeal.Read.val_main_v15_eq]
    obtain ⟨a0, a1, a2, a3⟩ := hagree c
    rw [a0, a1, a2, a3]
    exact Cert.UpIdeal.Hand.results m c

theorem algebraic_OutIdeal_OutRefIdeal : algebraic_OutIdeal_OutRefIdeal := by
  intro m ρ m' ρ' _ hagree
  refine ⟨fun c => Cert.OutIdeal.Hand.G m c, ?_, ?_⟩
  · exact (θ_run Cert.OutIdeal.defs _ _).mono (fun _ h c => ⟨(h c).1.trans (Cert.OutIdeal.Hand.final m c), (h c).2⟩)
      (Cert.OutIdeal.Value.run_blocks (F := Ideal) m ρ)
  · refine (θ_run Cert.OutRefIdeal.defs _ _).mono (fun _ h c => ⟨?_, (h c).2⟩) (Cert.OutRefIdeal.Value.run (F := Ideal) m' ρ')
    rw [(h c).1, Cert.OutRefIdeal.Read.val_main_v45_eq]
    obtain ⟨a0, a1, a2, a3, a4, a5, a6, a7, a8⟩ := hagree c
    rw [a0, a1, a2, a3, a4, a5, a6, a7, a8]
    exact Cert.OutIdeal.Hand.results m c

theorem algebraic_DownIdeal_DownRefIdeal : algebraic_DownIdeal_DownRefIdeal := by
  intro m ρ m' ρ' _ hagree
  refine ⟨fun c => Cert.DownIdeal.Hand.G m c, ?_, ?_⟩
  · exact (θ_run Cert.DownIdeal.defs _ _).mono (fun _ h c => ⟨(h c).1.trans (Cert.DownIdeal.Hand.final m c), (h c).2⟩)
      (Cert.DownIdeal.Value.run_blocks (F := Ideal) m ρ)
  · refine (θ_run Cert.DownRefIdeal.defs _ _).mono (fun _ h c => ⟨?_, (h c).2⟩) (Cert.DownRefIdeal.Value.run (F := Ideal) m' ρ')
    rw [(h c).1, Cert.DownRefIdeal.Read.val_main_v39_eq]
    obtain ⟨a0, a1, a2, a3, a4, a5⟩ := hagree c
    rw [a0, a1, a2, a3, a4, a5]
    exact Cert.DownIdeal.Hand.results m c

theorem algebraic_InIdeal_InRefIdeal : algebraic_InIdeal_InRefIdeal := by
  intro m ρ m' ρ' _ hagree
  refine ⟨fun c => Cert.InIdeal.Hand.G4 m c, fun c => Cert.InIdeal.Hand.G5 m c, fun c => Cert.InIdeal.Hand.G6 m c,
    fun c => Cert.InIdeal.Hand.G7 m c, fun c => Cert.InIdeal.Hand.G8 m c, ?_, ?_⟩
  · refine (θ_run Cert.InIdeal.defs _ _).mono (fun _ h c => ?_) (Cert.InIdeal.Value.run_blocks (F := Ideal) m ρ)
    obtain ⟨r4, r5, r6, r7, r8, args⟩ := h c
    exact ⟨r4.trans (Cert.InIdeal.Hand.final4 m c), r5.trans (Cert.InIdeal.Hand.final5 m c), r6.trans (Cert.InIdeal.Hand.final6 m c),
      r7.trans (Cert.InIdeal.Hand.final7 m c), r8.trans (Cert.InIdeal.Hand.final8 m c), args⟩
  · refine (θ_run Cert.InRefIdeal.defs _ _).mono (fun _ h c => ?_) (Cert.InRefIdeal.Value.run (F := Ideal) m' ρ')
    obtain ⟨r4, r5, r6, r7, r8, args⟩ := h c
    obtain ⟨a0, a1, a2, a3⟩ := hagree c
    refine ⟨?_, ?_, ?_, ?_, ?_, args⟩
    · rw [r4, Cert.InRefIdeal.Read.val_main_v35_eq, a0, a1, a2, a3]
      exact Cert.InIdeal.Hand.results4 m c
    · rw [r5, Cert.InRefIdeal.Read.val_main_v36_eq, a0, a1, a2, a3]
      exact Cert.InIdeal.Hand.results5 m c
    · rw [r6, Cert.InRefIdeal.Read.val_main_v38_eq, a0, a1, a2, a3]
      exact Cert.InIdeal.Hand.results6 m c
    · rw [r7, Cert.InRefIdeal.Read.val_main_v39_eq, a0, a1, a2, a3]
      exact Cert.InIdeal.Hand.results7 m c
    · rw [r8, Cert.InRefIdeal.Read.val_main_v19_eq, a0, a1, a2, a3]
      exact Cert.InIdeal.Hand.results8 m c

theorem quiescent_WinRefIdeal : quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem quiescent_WinRefIdeal_pre [hPre : Cert.Pre_scores_finite.Facts] : quiescent_WinRefIdeal_pre_scores_finite :=
  fun m ρ _ => quiescent_WinRefIdeal m ρ trivial

theorem algebraic_WinIdeal_WinRefIdeal [hPre : Cert.Pre_scores_finite.Facts] : algebraic_WinIdeal_WinRefIdeal_pre_scores_finite := by
  intro m ρ m' ρ' hpre hagree
  have hx c := Cert.WinIdeal.Hand.real_of_pre _ _ _ _ (hpre c).1 (hpre c).2.1 (hpre c).2.2
  refine ⟨fun c => Cert.WinIdeal.Hand.G m c, ?_, ?_⟩
  · exact (θ_run Cert.WinIdeal.defs _ _).mono (fun _ h c => ⟨(h c).1.trans (Cert.WinIdeal.Hand.final m c (hx c)), (h c).2⟩)
      (Cert.WinIdeal.Value.run_blocks (F := Ideal) m ρ)
  · refine (θ_run Cert.WinRefIdeal.defs _ _).mono (fun _ h c => ⟨?_, (h c).2⟩) (Cert.WinRefIdeal.Value.run (F := Ideal) m' ρ')
    rw [(h c).1, Cert.WinRefIdeal.Read.val_main_v82_eq]
    obtain ⟨a0, a1, a2, a3⟩ := hagree c
    rw [a0, a1, a2, a3]
    exact Cert.WinIdeal.Hand.results m c (hx c)

theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_AdaIdeal_AdaRefIdeal : algebraic_AdaIdeal_AdaRefIdeal := by
  intro m ρ m' ρ' _ hagree
  refine ⟨fun c => Cert.AdaIdeal.Hand.G m c, ?_, ?_⟩
  · exact (θ_run Cert.AdaIdeal.defs _ _).mono (fun _ h c => ⟨(h c).1.trans (Cert.AdaIdeal.Hand.final m c), (h c).2⟩)
      (Cert.AdaIdeal.Value.run_blocks (F := Ideal) m ρ)
  · refine (θ_run Cert.AdaRefIdeal.defs _ _).mono (fun _ h c => ⟨?_, (h c).2⟩) (Cert.AdaRefIdeal.Value.run (F := Ideal) m' ρ')
    rw [(h c).1, Cert.AdaRefIdeal.Read.val_main_v7_eq]
    obtain ⟨a0, a1, a2⟩ := hagree c
    rw [a0, a1, a2]
    exact Cert.AdaIdeal.Hand.results m c

theorem claim : Cert.Claim :=
  ⟨Cert.Moe.Gen.facts, Cert.MoeIdeal.Gen.facts, Cert.MoeRefIdeal.Gen.facts,
    Cert.Up.Gen.facts, Cert.UpIdeal.Gen.facts, Cert.UpRefIdeal.Gen.facts,
    Cert.Out.Gen.facts, Cert.OutIdeal.Gen.facts, Cert.OutRefIdeal.Gen.facts,
    Cert.In.Gen.facts, Cert.InIdeal.Gen.facts, Cert.InRefIdeal.Gen.facts,
    Cert.Down.Gen.facts, Cert.DownIdeal.Gen.facts, Cert.DownRefIdeal.Gen.facts,
    Cert.Win.Gen.facts, Cert.WinIdeal.Gen.facts, Cert.WinRefIdeal.Gen.facts,
    Cert.Ada.Gen.facts, Cert.AdaIdeal.Gen.facts, Cert.AdaRefIdeal.Gen.facts,
    Cert.Equal.preFacts, Cert.WinIdeal.Hand.preFacts,
    fun m ρ _ => Cert.Moe.Gen.frame m ρ, fun m ρ _ => Cert.MoeIdeal.Gen.frame m ρ, fun m ρ _ => Cert.MoeIdeal.Gen.frame m ρ,
    quiescent_MoeRefIdeal, quiescent_MoeRefIdeal_pre (hPre := Cert.Equal.preFacts),
    fun m ρ _ => Cert.Up.Gen.frame m ρ, fun m ρ _ => Cert.UpIdeal.Gen.frame m ρ, quiescent_UpRefIdeal,
    fun m ρ _ => Cert.Out.Gen.frame m ρ, fun m ρ _ => Cert.OutIdeal.Gen.frame m ρ, quiescent_OutRefIdeal,
    fun m ρ _ => Cert.In.Gen.frame m ρ, fun m ρ _ => Cert.InIdeal.Gen.frame m ρ, quiescent_InRefIdeal,
    fun m ρ _ => Cert.Down.Gen.frame m ρ, fun m ρ _ => Cert.DownIdeal.Gen.frame m ρ, quiescent_DownRefIdeal,
    fun m ρ _ => Cert.Win.Gen.frame m ρ, fun m ρ _ => Cert.WinIdeal.Gen.frame m ρ, fun m ρ _ => Cert.WinIdeal.Gen.frame m ρ,
    quiescent_WinRefIdeal, quiescent_WinRefIdeal_pre (hPre := Cert.WinIdeal.Hand.preFacts),
    fun m ρ _ => Cert.Ada.Gen.frame m ρ, fun m ρ _ => Cert.AdaIdeal.Gen.frame m ρ, quiescent_AdaRefIdeal,
    (trivial : preserves_Moe_MoeIdeal), algebraic_MoeIdeal_MoeRefIdeal (hPre := Cert.Equal.preFacts),
    (trivial : preserves_Up_UpIdeal), algebraic_UpIdeal_UpRefIdeal, (trivial : preserves_Out_OutIdeal), algebraic_OutIdeal_OutRefIdeal,
    (trivial : preserves_In_InIdeal), algebraic_InIdeal_InRefIdeal, (trivial : preserves_Down_DownIdeal),
    algebraic_DownIdeal_DownRefIdeal, IdealRules.named_const.statement Cert.WinIdeal.κ "mask" .f32 0xF149F2CA#32 ⊥ rfl,
    algebraic_WinIdeal_WinRefIdeal (hPre := Cert.WinIdeal.Hand.preFacts), (trivial : preserves_Ada_AdaIdeal),
    algebraic_AdaIdeal_AdaRefIdeal⟩

end Cert.Proof

end
